-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "r729" .f32 0x3AB3CC07#32 ((729⁻¹ : ℝ) : EReal)
  ∧ IdealRules.named_const.Statement Cert.KernelIdeal.κ "r27" .f32 0x3D17B426#32 ((27⁻¹ : ℝ) : EReal)
  ∧ IdealRules.named_const.Statement Cert.KernelIdeal.κ "r26" .f32 0x3D1D89D9#32 ((26⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024 : Shape := ⟨1, ![1024]⟩
abbrev S26x1024 : Shape := ⟨2, ![26, 1024]⟩
abbrev S_ : Shape := ⟨0, ![]⟩
abbrev S26 : Shape := ⟨1, ![26]⟩
abbrev S2048x1024 : Shape := ⟨2, ![2048, 1024]⟩
abbrev S1024x1024 : Shape := ⟨2, ![1024, 1024]⟩
abbrev S2048x3 : Shape := ⟨2, ![2048, 3]⟩
abbrev S3 : Shape := ⟨1, ![3]⟩
abbrev S1x1024 : Shape := ⟨2, ![1, 1024]⟩
abbrev S32x1024 : Shape := ⟨2, ![32, 1024]⟩
abbrev S32 : Shape := ⟨1, ![32]⟩
abbrev S1x32 : Shape := ⟨2, ![1, 32]⟩
abbrev S1x1 : Shape := ⟨2, ![1, 1]⟩
abbrev S128 : Shape := ⟨1, ![128]⟩
abbrev S1x128 : Shape := ⟨2, ![1, 128]⟩
abbrev S8x1024 : Shape := ⟨2, ![8, 1024]⟩
abbrev S1 : Shape := ⟨1, ![1]⟩
abbrev S4x32 : Shape := ⟨2, ![4, 32]⟩
abbrev S4x1024 : Shape := ⟨2, ![4, 1024]⟩
abbrev S1x2048 : Shape := ⟨2, ![1, 2048]⟩
abbrev S1x3 : Shape := ⟨2, ![1, 3]⟩

abbrev nBuf : Space → Nat
  | .hbm => 36
  | .vmem => 20
  | .smem => 0
  | _ => 0

abbrev bufTy : (tb : Table) → Fin (tcTables nBuf tb) → BufTy
  | .hbm, ⟨0, _⟩ => ⟨S1024, .f32⟩
  | .hbm, ⟨1, _⟩ => ⟨S26x1024, .f32⟩
  | .hbm, ⟨2, _⟩ => ⟨S_, .i32⟩
  | .hbm, ⟨3, _⟩ => ⟨S26, .i32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x1024, .f32⟩
  | .hbm, ⟨11, _⟩ => ⟨S1024, .f32⟩
  | .hbm, ⟨12, _⟩ => ⟨S2048x3, .f32⟩
  | .hbm, ⟨13, _⟩ => ⟨S3, .f32⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S32x1024, .f32⟩
  | .hbm, ⟨18, _⟩ => ⟨S_, .i32⟩
  | .hbm, ⟨19, _⟩ => ⟨S_, .i32⟩
  | .hbm, ⟨20, _⟩ => ⟨S32, .i32⟩
  | .hbm, ⟨21, _⟩ => ⟨S1x32, .i32⟩
  | .hbm, ⟨22, _⟩ => ⟨S1x1, .i32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x128, .f32⟩
  | .hbm, ⟨33, _⟩ => ⟨S1024, .f32⟩
  | .hbm, ⟨34, _⟩ => ⟨S1x3, .f32⟩
  | .hbm, ⟨35, _⟩ => ⟨S3, .f32⟩
  | .local _ .vmem, ⟨0, _⟩ => ⟨S1x1024, .f32⟩
  | .local _ .vmem, ⟨1, _⟩ => ⟨S32x1024, .f32⟩
  | .local _ .vmem, ⟨2, _⟩ => ⟨S1x32, .i32⟩
  | .local _ .vmem, ⟨3, _⟩ => ⟨S1x1, .i32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S2048x3, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x128, .f32⟩
  | .local _ .vmem, ⟨17, _⟩ => ⟨S1x1024, .f32⟩
  | .local _ .vmem, ⟨18, _⟩ => ⟨S1x128, .f32⟩
  | .local _ .vmem, ⟨19, _⟩ => ⟨S8x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_c_0 : Ref sig .tc := ⟨.hbm, 18, rfl⟩
abbrev main_call1_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_call2_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c2_i32 : BitVec 32 := 2#32
  let v13 : BitVec 1 := Scalar.cmpi .slt arg0 c2_i32
  let c1_i32_6 : BitVec 32 := 1#32
  let v14 : BitVec 1 := Scalar.cmpi .slt arg0 c1_i32_6
  let v15 : BitVec 1 := Scalar.andi v13 v14
  let v16 : BitVec 32 := Scalar.extui v15
  let c0_i32_7 : BitVec 32 := 0#32
  let v17 : BitVec 1 := Scalar.cmpi .ne v16 c0_i32_7
  v17

def k0_off1 (i : grid0.Coords) : Fin 2 → Nat :=
  let c0 : Index := 0#32
  let arg0 : BitVec 32 := BitVec.ofNat 32 (i 0).val
  let c1_i32 : BitVec 32 := 1#32
  let c0_i32_1 : BitVec 32 := 0#32
  let v3 : BitVec 1 := Scalar.cmpi .eq c1_i32 c0_i32_1
  let c1_i32_2 : BitVec 32 := 1#32
  let v4 : BitVec 32 := Scalar.select v3 c1_i32_2 c1_i32
  let v5 : BitVec 32 := Scalar.remsi arg0 v4
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let c0_i32_3 : BitVec 32 := 0#32
  let v6 : BitVec 1 := Scalar.cmpi .ne v5 c0_i32_3
  let v10 : BitVec 1 := Scalar.andi v9 v6
  let v11 : BitVec 32 := Scalar.addi v5 v4
  let v12 : BitVec 32 := Scalar.select v10 v11 v5
  let c1024_i32 : BitVec 32 := 1024#32
  let v26 : BitVec 32 := Scalar.muli v12 c1024_i32
  let v27 : Index := Scalar.indexCast v26
  ![0, v27.toNat]
def k0_cond3 (i : grid0.Coords) : BitVec 1 :=
  let arg0 : BitVec 32 := BitVec.ofNat 32 (i 0).val
  let c2_i32_8 : BitVec 32 := 2#32
  let v18 : BitVec 1 := Scalar.cmpi .slt arg0 c2_i32_8
  let c1_i32_9 : BitVec 32 := 1#32
  let v19 : BitVec 1 := Scalar.cmpi .sge arg0 c1_i32_9
  let v20 : BitVec 1 := Scalar.andi v18 v19
  let v21 : BitVec 32 := Scalar.extui v20
  let c0_i32_10 : BitVec 32 := 0#32
  let v22 : BitVec 1 := Scalar.cmpi .ne v21 c0_i32_10
  v22

def k0_off2 (i : grid0.Coords) : Fin 2 → Nat :=
  let c5 : Index := 5#32
  let arg0 : BitVec 32 := BitVec.ofNat 32 (i 0).val
  let c1_i32 : BitVec 32 := 1#32
  let c0_i32_1 : BitVec 32 := 0#32
  let v3 : BitVec 1 := Scalar.cmpi .eq c1_i32 c0_i32_1
  let c1_i32_2 : BitVec 32 := 1#32
  let v4 : BitVec 32 := Scalar.select v3 c1_i32_2 c1_i32
  let v5 : BitVec 32 := Scalar.remsi arg0 v4
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let c0_i32_3 : BitVec 32 := 0#32
  let v6 : BitVec 1 := Scalar.cmpi .ne v5 c0_i32_3
  let v10 : BitVec 1 := Scalar.andi v9 v6
  let v11 : BitVec 32 := Scalar.addi v5 v4
  let v12 : BitVec 32 := Scalar.select v10 v11 v5
  let c1024_i32 : BitVec 32 := 1024#32
  let v26 : BitVec 32 := Scalar.muli v12 c1024_i32
  let v28 : Index := Scalar.indexCast v26
  ![5, v28.toNat]
def k0_off3 (i : grid0.Coords) : Fin 2 → Nat :=
  let c6 : Index := 6#32
  let arg0 : BitVec 32 := BitVec.ofNat 32 (i 0).val
  let c1_i32 : BitVec 32 := 1#32
  let c0_i32_1 : BitVec 32 := 0#32
  let v3 : BitVec 1 := Scalar.cmpi .eq c1_i32 c0_i32_1
  let c1_i32_2 : BitVec 32 := 1#32
  let v4 : BitVec 32 := Scalar.select v3 c1_i32_2 c1_i32
  let v5 : BitVec 32 := Scalar.remsi arg0 v4
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let c0_i32_3 : BitVec 32 := 0#32
  let v6 : BitVec 1 := Scalar.cmpi .ne v5 c0_i32_3
  let v10 : BitVec 1 := Scalar.andi v9 v6
  let v11 : BitVec 32 := Scalar.addi v5 v4
  let v12 : BitVec 32 := Scalar.select v10 v11 v5
  let c1024_i32 : BitVec 32 := 1024#32
  let v26 : BitVec 32 := Scalar.muli v12 c1024_i32
  let v37 : Index := Scalar.indexCast v26
  ![6, v37.toNat]
def k0_off4 (i : grid0.Coords) : Fin 2 → Nat :=
  let c7 : Index := 7#32
  let arg0 : BitVec 32 := BitVec.ofNat 32 (i 0).val
  let c1_i32 : BitVec 32 := 1#32
  let c0_i32_1 : BitVec 32 := 0#32
  let v3 : BitVec 1 := Scalar.cmpi .eq c1_i32 c0_i32_1
  let c1_i32_2 : BitVec 32 := 1#32
  let v4 : BitVec 32 := Scalar.select v3 c1_i32_2 c1_i32
  let v5 : BitVec 32 := Scalar.remsi arg0 v4
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let c0_i32_3 : BitVec 32 := 0#32
  let v6 : BitVec 1 := Scalar.cmpi .ne v5 c0_i32_3
  let v10 : BitVec 1 := Scalar.andi v9 v6
  let v11 : BitVec 32 := Scalar.addi v5 v4
  let v12 : BitVec 32 := Scalar.select v10 v11 v5
  let c1024_i32 : BitVec 32 := 1024#32
  let v26 : BitVec 32 := Scalar.muli v12 c1024_i32
  let v46 : Index := Scalar.indexCast v26
  ![7, v46.toNat]
def k0_cond4 (i : grid0.Coords) : BitVec 1 :=
  let arg0 : BitVec 32 := BitVec.ofNat 32 (i 0).val
  let c2_i32_11 : BitVec 32 := 2#32
  let v23 : BitVec 1 := Scalar.cmpi .eq arg0 c2_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "r26" => some ((26⁻¹ : ℝ) : EReal)
  | "r27" => some ((27⁻¹ : ℝ) : EReal)
  | "r729" => some ((729⁻¹ : ℝ) : EReal)
  | _ => none
-- ==== ReferenceIdeal.lean ====
abbrev S1024 : Shape := ⟨1, ![1024]⟩
abbrev S26x1024 : Shape := ⟨2, ![26, 1024]⟩
abbrev S_ : Shape := ⟨0, ![]⟩
abbrev S26 : Shape := ⟨1, ![26]⟩
abbrev S2048x1024 : Shape := ⟨2, ![2048, 1024]⟩
abbrev S1024x1024 : Shape := ⟨2, ![1024, 1024]⟩
abbrev S2048x3 : Shape := ⟨2, ![2048, 3]⟩
abbrev S3 : Shape := ⟨1, ![3]⟩
abbrev S1 : Shape := ⟨1, ![1]⟩
abbrev S26x1 : Shape := ⟨2, ![26, 1]⟩
abbrev S26x3 : Shape := ⟨2, ![26, 3]⟩
abbrev S1x3 : Shape := ⟨2, ![1, 3]⟩
abbrev S2048 : Shape := ⟨1, ![2048]⟩
abbrev S1x1024 : Shape := ⟨2, ![1, 1024]⟩
abbrev S3x1024 : Shape := ⟨2, ![3, 1024]⟩
abbrev S3x1 : Shape := ⟨2, ![3, 1]⟩

abbrev nBuf : Space → Nat
  | .hbm => 281
  | .vmem => 0
  | .smem => 0
  | _ => 0

abbrev hbmTy0_0 (i : Nat) : BufTy := match i % 128 with
  | 0 => ⟨S1024, .f32⟩
  | 1 => ⟨S26x1024, .f32⟩
  | 2 => ⟨S_, .i32⟩
  | 3 => ⟨S26, .i32⟩
  | 4 => ⟨S2048x1024, .f32⟩
  | 5 => ⟨S1024, .f32⟩
  | 6 => ⟨S2048x1024, .f32⟩
  | 7 => ⟨S1024, .f32⟩
  | 8 => ⟨S1024x1024, .f32⟩
  | 9 => ⟨S1024, .f32⟩
  | 10 => ⟨S2048x1024, .f32⟩
  | 11 => ⟨S1024, .f32⟩
  | 12 => ⟨S2048x3, .f32⟩
  | 13 => ⟨S3, .f32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i1⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i1⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i1⟩
  | 51 => ⟨S_, .i32⟩
  | 52 => ⟨S_, .i1⟩
  | 53 => ⟨S_, .i1⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i1⟩
  | 68 => ⟨S_, .i32⟩
  | 69 => ⟨S_, .i1⟩
  | 70 => ⟨S_, .i1⟩
  | 71 => ⟨S_, .i1⟩
  | 72 => ⟨S_, .i32⟩
  | 73 => ⟨S_, .i32⟩
  | 74 => ⟨S1, .i32⟩
  | 75 => ⟨S1, .i32⟩
  | 76 => ⟨S1, .i32⟩
  | 77 => ⟨S3, .i32⟩
  | 78 => ⟨S3, .f32⟩
  | 79 => ⟨S_, .i32⟩
  | 80 => ⟨S_, .i32⟩
  | 81 => ⟨S26, .i32⟩
  | 82 => ⟨S26, .i32⟩
  | 83 => ⟨S26, .i32⟩
  | 84 => ⟨S_, .i32⟩
  | 85 => ⟨S26, .i32⟩
  | 86 => ⟨S26, .i1⟩
  | 87 => ⟨S26, .i32⟩
  | 88 => ⟨S26, .i32⟩
  | 89 => ⟨S_, .i32⟩
  | 90 => ⟨S26, .i32⟩
  | 91 => ⟨S26, .i1⟩
  | 92 => ⟨S26, .i1⟩
  | 93 => ⟨S_, .i32⟩
  | 94 => ⟨S26, .i32⟩
  | 95 => ⟨S26, .i32⟩
  | 96 => ⟨S26, .i32⟩
  | 97 => ⟨S_, .i32⟩
  | 98 => ⟨S_, .i32⟩
  | 99 => ⟨S26, .i32⟩
  | 100 => ⟨S26, .i32⟩
  | 101 => ⟨S26, .i32⟩
  | 102 => ⟨S_, .i32⟩
  | 103 => ⟨S26, .i32⟩
  | 104 => ⟨S26, .i1⟩
  | 105 => ⟨S26, .i32⟩
  | 106 => ⟨S26, .i32⟩
  | 107 => ⟨S_, .i32⟩
  | 108 => ⟨S26, .i32⟩
  | 109 => ⟨S26, .i1⟩
  | 110 => ⟨S26, .i1⟩
  | 111 => ⟨S_, .i32⟩
  | 112 => ⟨S26, .i32⟩
  | 113 => ⟨S26, .i32⟩
  | 114 => ⟨S26, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S26, .i32⟩
  | 122 => ⟨S26, .i32⟩
  | 123 => ⟨S_, .i32⟩
  | 124 => ⟨S26, .i32⟩
  | 125 => ⟨S26, .i1⟩
  | 126 => ⟨S_, .i32⟩
  | 127 => ⟨S26, .i32⟩
  | _ => ⟨S1024, .f32⟩

abbrev hbmTy0_1 (i : Nat) : BufTy := match i % 128 with
  | 0 => ⟨S26, .i1⟩
  | 1 => ⟨S_, .i32⟩
  | 2 => ⟨S_, .i1⟩
  | 3 => ⟨S26, .i1⟩
  | 4 => ⟨S26, .i1⟩
  | 5 => ⟨S26, .i1⟩
  | 6 => ⟨S26, .i32⟩
  | 7 => ⟨S26, .i32⟩
  | 8 => ⟨S26, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S26, .i32⟩
  | 16 => ⟨S26, .i32⟩
  | 17 => ⟨S_, .i32⟩
  | 18 => ⟨S26, .i32⟩
  | 19 => ⟨S26, .i1⟩
  | 20 => ⟨S_, .i32⟩
  | 21 => ⟨S26, .i32⟩
  | 22 => ⟨S26, .i1⟩
  | 23 => ⟨S_, .i32⟩
  | 24 => ⟨S_, .i1⟩
  | 25 => ⟨S26, .i1⟩
  | 26 => ⟨S26, .i1⟩
  | 27 => ⟨S26, .i1⟩
  | 28 => ⟨S26, .i32⟩
  | 29 => ⟨S26, .i32⟩
  | 30 => ⟨S26, .i32⟩
  | 31 => ⟨S26x1, .i32⟩
  | 32 => ⟨S26x1, .i32⟩
  | 33 => ⟨S26x1, .i32⟩
  | 34 => ⟨S26x3, .i32⟩
  | 35 => ⟨S26x3, .f32⟩
  | 36 => ⟨S1x3, .f32⟩
  | 37 => ⟨S26x3, .f32⟩
  | 38 => ⟨S26x3, .f32⟩
  | 39 => ⟨S26x3, .f32⟩
  | 40 => ⟨S_, .f32⟩
  | 41 => ⟨S26, .f32⟩
  | 42 => ⟨S26, .f32⟩
  | 43 => ⟨S_, .f32⟩
  | 44 => ⟨S26, .f32⟩
  | 45 => ⟨S26, .i1⟩
  | 46 => ⟨S26, .f32⟩
  | 47 => ⟨S_, .f32⟩
  | 48 => ⟨S26, .f32⟩
  | 49 => ⟨S26, .i1⟩
  | 50 => ⟨S_, .f32⟩
  | 51 => ⟨S26, .f32⟩
  | 52 => ⟨S26, .i1⟩
  | 53 => ⟨S26, .i1⟩
  | 54 => ⟨S26, .f32⟩
  | 55 => ⟨S_, .f32⟩
  | 56 => ⟨S26, .f32⟩
  | 57 => ⟨S26, .i1⟩
  | 58 => ⟨S26, .f32⟩
  | 59 => ⟨S_, .f32⟩
  | 60 => ⟨S_, .f32⟩
  | 61 => ⟨S26x1, .f32⟩
  | 62 => ⟨S26x1024, .f32⟩
  | 63 => ⟨S26x1024, .f32⟩
  | 64 => ⟨S_, .f32⟩
  | 65 => ⟨S1024, .f32⟩
  | 66 => ⟨S_, .f32⟩
  | 67 => ⟨S_, .f32⟩
  | 68 => ⟨S1024, .f32⟩
  | 69 => ⟨S1024, .f32⟩
  | 70 => ⟨S_, .f32⟩
  | 71 => ⟨S_, .f32⟩
  | 72 => ⟨S26x1, .f32⟩
  | 73 => ⟨S26x1024, .f32⟩
  | 74 => ⟨S26x1024, .f32⟩
  | 75 => ⟨S_, .f32⟩
  | 76 => ⟨S1024, .f32⟩
  | 77 => ⟨S_, .f32⟩
  | 78 => ⟨S_, .f32⟩
  | 79 => ⟨S1024, .f32⟩
  | 80 => ⟨S1024, .f32⟩
  | 81 => ⟨S_, .f32⟩
  | 82 => ⟨S_, .f32⟩
  | 83 => ⟨S26x1, .f32⟩
  | 84 => ⟨S26x1024, .f32⟩
  | 85 => ⟨S26x1024, .f32⟩
  | 86 => ⟨S_, .f32⟩
  | 87 => ⟨S1024, .f32⟩
  | 88 => ⟨S_, .f32⟩
  | 89 => ⟨S_, .f32⟩
  | 90 => ⟨S1024, .f32⟩
  | 91 => ⟨S1024, .f32⟩
  | 92 => ⟨S2048, .f32⟩
  | 93 => ⟨S1024, .f32⟩
  | 94 => ⟨S1024, .f32⟩
  | 95 => ⟨S1024, .f32⟩
  | 96 => ⟨S_, .f32⟩
  | 97 => ⟨S_, .i1⟩
  | 98 => ⟨S_, .f32⟩
  | 99 => ⟨S1024, .f32⟩
  | 100 => ⟨S1024, .f32⟩
  | 101 => ⟨S2048, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S_, .f32⟩
  | 110 => ⟨S_, .i1⟩
  | 111 => ⟨S_, .f32⟩
  | 112 => ⟨S1024, .f32⟩
  | 113 => ⟨S1024, .f32⟩
  | 114 => ⟨S2048, .f32⟩
  | 115 => ⟨S1024, .f32⟩
  | 116 => ⟨S1024, .f32⟩
  | 117 => ⟨S1024, .f32⟩
  | 118 => ⟨S_, .f32⟩
  | 119 => ⟨S_, .i1⟩
  | 120 => ⟨S_, .f32⟩
  | 121 => ⟨S1024, .f32⟩
  | 122 => ⟨S1024, .f32⟩
  | 123 => ⟨S_, .f32⟩
  | 124 => ⟨S1024, .f32⟩
  | 125 => ⟨S_, .f32⟩
  | 126 => ⟨S1024, .f32⟩
  | 127 => ⟨S1024, .f32⟩
  | _ => ⟨S1024, .f32⟩

abbrev hbmTy0_2 (i : Nat) : BufTy := match i % 128 with
  | 0 => ⟨S2048, .f32⟩
  | 1 => ⟨S3, .f32⟩
  | 2 => ⟨S3, .f32⟩
  | 3 => ⟨S_, .f32⟩
  | 4 => ⟨S_, .f32⟩
  | 5 => ⟨S_, .f32⟩
  | 6 => ⟨S_, .f32⟩
  | 7 => ⟨S1, .f32⟩
  | 8 => ⟨S3, .f32⟩
  | 9 => ⟨S3, .f32⟩
  | 10 => ⟨S3, .f32⟩
  | 11 => ⟨S_, .f32⟩
  | 12 => ⟨S_, .f32⟩
  | 13 => ⟨S1, .f32⟩
  | 14 => ⟨S3, .f32⟩
  | 15 => ⟨S3, .f32⟩
  | 16 => ⟨S1x1024, .f32⟩
  | 17 => ⟨S1x1024, .f32⟩
  | 18 => ⟨S1x1024, .f32⟩
  | 19 => ⟨S3x1024, .f32⟩
  | 20 => ⟨S3x1, .f32⟩
  | 21 => ⟨S3x1024, .f32⟩
  | 22 => ⟨S3x1024, .f32⟩
  | 23 => ⟨S_, .f32⟩
  | 24 => ⟨S1024, .f32⟩
  | _ => ⟨S1024, .f32⟩

abbrev hbmTy (i : Nat) : BufTy := match i / 128 with
  | 0 => hbmTy0_0 i
  | 1 => hbmTy0_1 i
  | 2 => hbmTy0_2 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c : Ref sig .tc := ⟨.hbm, 21, rfl⟩
abbrev main_call0_v6 : Ref sig .tc := ⟨.hbm, 22, rfl⟩
abbrev main_call0_v7 : Ref sig .tc := ⟨.hbm, 23, rfl⟩
abbrev main_call0_c_0 : Ref sig .tc := ⟨.hbm, 24, rfl⟩
abbrev main_call0_v8 : Ref sig .tc := ⟨.hbm, 25, rfl⟩
abbrev main_v0 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c : Ref sig .tc := ⟨.hbm, 34, rfl⟩
abbrev main_call1_v6 : Ref sig .tc := ⟨.hbm, 35, rfl⟩
abbrev main_call1_v7 : Ref sig .tc := ⟨.hbm, 36, rfl⟩
abbrev main_call1_c_0 : Ref sig .tc := ⟨.hbm, 37, rfl⟩
abbrev main_call1_v8 : Ref sig .tc := ⟨.hbm, 38, rfl⟩
abbrev main_v1 : Ref sig .tc := ⟨.hbm, 39, rfl⟩
abbrev main_c_1 : Ref sig .tc := ⟨.hbm, 40, rfl⟩
abbrev main_call2_v0 : Ref sig .tc := ⟨.hbm, 41, rfl⟩
abbrev main_call2_c : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_c_1 : Ref sig .tc := ⟨.hbm, 47, rfl⟩
abbrev main_call2_v4 : Ref sig .tc := ⟨.hbm, 48, rfl⟩
abbrev main_call2_c_2 : Ref sig .tc := ⟨.hbm, 49, rfl⟩
abbrev main_call2_v5 : Ref sig .tc := ⟨.hbm, 50, rfl⟩
abbrev main_call2_c_3 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_v2 : Ref sig .tc := ⟨.hbm, 56, rfl⟩
abbrev main_c_2 : Ref sig .tc := ⟨.hbm, 57, rfl⟩
abbrev main_call3_v0 : Ref sig .tc := ⟨.hbm, 58, rfl⟩
abbrev main_call3_c : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_c_1 : Ref sig .tc := ⟨.hbm, 64, rfl⟩
abbrev main_call3_v4 : Ref sig .tc := ⟨.hbm, 65, rfl⟩
abbrev main_call3_c_2 : Ref sig .tc := ⟨.hbm, 66, rfl⟩
abbrev main_call3_v5 : Ref sig .tc := ⟨.hbm, 67, rfl⟩
abbrev main_call3_c_3 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_c_3 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_c : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_0 : Ref sig .tc := ⟨.hbm, 93, rfl⟩
abbrev main_call4_v12 : Ref sig .tc := ⟨.hbm, 94, rfl⟩
abbrev main_call4_v13 : Ref sig .tc := ⟨.hbm, 95, rfl⟩
abbrev main_v9 : Ref sig .tc := ⟨.hbm, 96, rfl⟩
abbrev main_c_4 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_call5_v5 : Ref sig .tc := ⟨.hbm, 103, rfl⟩
abbrev main_call5_v6 : Ref sig .tc := ⟨.hbm, 104, rfl⟩
abbrev main_call5_v7 : Ref sig .tc := ⟨.hbm, 105, rfl⟩
abbrev main_call5_v8 : Ref sig .tc := ⟨.hbm, 106, rfl⟩
abbrev main_call5_c : Ref sig .tc := ⟨.hbm, 107, rfl⟩
abbrev main_call5_v9 : Ref sig .tc := ⟨.hbm, 108, rfl⟩
abbrev main_call5_v10 : Ref sig .tc := ⟨.hbm, 109, rfl⟩
abbrev main_call5_v11 : Ref sig .tc := ⟨.hbm, 110, rfl⟩
abbrev main_call5_c_0 : Ref sig .tc := ⟨.hbm, 111, rfl⟩
abbrev main_call5_v12 : Ref sig .tc := ⟨.hbm, 112, rfl⟩
abbrev main_call5_v13 : Ref sig .tc := ⟨.hbm, 113, rfl⟩
abbrev main_v10 : Ref sig .tc := ⟨.hbm, 114, rfl⟩
abbrev main_c_5 : Ref sig .tc := ⟨.hbm, 115, rfl⟩
abbrev main_call6_v0 : Ref sig .tc := ⟨.hbm, 116, rfl⟩
abbrev main_call6_c : Ref sig .tc := ⟨.hbm, 117, rfl⟩
abbrev main_call6_v1 : Ref sig .tc := ⟨.hbm, 118, rfl⟩
abbrev main_call6_c_0 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_call6_c_1 : Ref sig .tc := ⟨.hbm, 123, rfl⟩
abbrev main_call6_v5 : Ref sig .tc := ⟨.hbm, 124, rfl⟩
abbrev main_call6_v6 : Ref sig .tc := ⟨.hbm, 125, rfl⟩
abbrev main_call6_c_2 : Ref sig .tc := ⟨.hbm, 126, rfl⟩
abbrev main_call6_v7 : Ref sig .tc := ⟨.hbm, 127, rfl⟩
abbrev main_call6_v8 : Ref sig .tc := ⟨.hbm, 128, rfl⟩
abbrev main_call6_c_3 : Ref sig .tc := ⟨.hbm, 129, rfl⟩
abbrev main_call6_v9 : Ref sig .tc := ⟨.hbm, 130, rfl⟩
abbrev main_call6_v10 : Ref sig .tc := ⟨.hbm, 131, rfl⟩
abbrev main_call6_v11 : Ref sig .tc := ⟨.hbm, 132, rfl⟩
abbrev main_call6_v12 : Ref sig .tc := ⟨.hbm, 133, rfl⟩
abbrev main_call6_v13 : Ref sig .tc := ⟨.hbm, 134, rfl⟩
abbrev main_call6_v14 : Ref sig .tc := ⟨.hbm, 135, rfl⟩
abbrev main_v11 : Ref sig .tc := ⟨.hbm, 136, rfl⟩
abbrev main_c_6 : Ref sig .tc := ⟨.hbm, 137, rfl⟩
abbrev main_call7_v0 : Ref sig .tc := ⟨.hbm, 138, rfl⟩
abbrev main_call7_c : Ref sig .tc := ⟨.hbm, 139, rfl⟩
abbrev main_call7_v1 : Ref sig .tc := ⟨.hbm, 140, rfl⟩
abbrev main_call7_c_0 : Ref sig .tc := ⟨.hbm, 141, rfl⟩
abbrev main_call7_v2 : Ref sig .tc := ⟨.hbm, 142, rfl⟩
abbrev main_call7_v3 : Ref sig .tc := ⟨.hbm, 143, rfl⟩
abbrev main_call7_v4 : Ref sig .tc := ⟨.hbm, 144, rfl⟩
abbrev main_call7_c_1 : Ref sig .tc := ⟨.hbm, 145, rfl⟩
abbrev main_call7_v5 : Ref sig .tc := ⟨.hbm, 146, rfl⟩
abbrev main_call7_v6 : Ref sig .tc := ⟨.hbm, 147, rfl⟩
abbrev main_call7_c_2 : Ref sig .tc := ⟨.hbm, 148, rfl⟩
abbrev main_call7_v7 : Ref sig .tc := ⟨.hbm, 149, rfl⟩
abbrev main_call7_v8 : Ref sig .tc := ⟨.hbm, 150, rfl⟩
abbrev main_call7_c_3 : Ref sig .tc := ⟨.hbm, 151, rfl⟩
abbrev main_call7_v9 : Ref sig .tc := ⟨.hbm, 152, rfl⟩
abbrev main_call7_v10 : Ref sig .tc := ⟨.hbm, 153, rfl⟩
abbrev main_call7_v11 : Ref sig .tc := ⟨.hbm, 154, rfl⟩
abbrev main_call7_v12 : Ref sig .tc := ⟨.hbm, 155, rfl⟩
abbrev main_call7_v13 : Ref sig .tc := ⟨.hbm, 156, rfl⟩
abbrev main_call7_v14 : Ref sig .tc := ⟨.hbm, 157, rfl⟩
abbrev main_v12 : Ref sig .tc := ⟨.hbm, 158, rfl⟩
abbrev main_v13 : Ref sig .tc := ⟨.hbm, 159, rfl⟩
abbrev main_v14 : Ref sig .tc := ⟨.hbm, 160, rfl⟩
abbrev main_v15 : Ref sig .tc := ⟨.hbm, 161, rfl⟩
abbrev main_v16 : Ref sig .tc := ⟨.hbm, 162, rfl⟩
abbrev main_v17 : Ref sig .tc := ⟨.hbm, 163, rfl⟩
abbrev main_v18 : Ref sig .tc := ⟨.hbm, 164, rfl⟩
abbrev main_v19 : Ref sig .tc := ⟨.hbm, 165, rfl⟩
abbrev main_v20 : Ref sig .tc := ⟨.hbm, 166, rfl⟩
abbrev main_call8_v0 : Ref sig .tc := ⟨.hbm, 167, rfl⟩
abbrev main_call8_cst : Ref sig .tc := ⟨.hbm, 168, rfl⟩
abbrev main_call8_v1 : Ref sig .tc := ⟨.hbm, 169, rfl⟩
abbrev main_v21 : Ref sig .tc := ⟨.hbm, 170, rfl⟩
abbrev main_cst : Ref sig .tc := ⟨.hbm, 171, rfl⟩
abbrev main_v22 : Ref sig .tc := ⟨.hbm, 172, rfl⟩
abbrev main_v23 : Ref sig .tc := ⟨.hbm, 173, rfl⟩
abbrev main_v24 : Ref sig .tc := ⟨.hbm, 174, rfl⟩
abbrev main_cst_7 : Ref sig .tc := ⟨.hbm, 175, rfl⟩
abbrev main_v25 : Ref sig .tc := ⟨.hbm, 176, rfl⟩
abbrev main_v26 : Ref sig .tc := ⟨.hbm, 177, rfl⟩
abbrev main_cst_8 : Ref sig .tc := ⟨.hbm, 178, rfl⟩
abbrev main_v27 : Ref sig .tc := ⟨.hbm, 179, rfl⟩
abbrev main_v28 : Ref sig .tc := ⟨.hbm, 180, rfl⟩
abbrev main_v29 : Ref sig .tc := ⟨.hbm, 181, rfl⟩
abbrev main_v30 : Ref sig .tc := ⟨.hbm, 182, rfl⟩
abbrev main_cst_9 : Ref sig .tc := ⟨.hbm, 183, rfl⟩
abbrev main_v31 : Ref sig .tc := ⟨.hbm, 184, rfl⟩
abbrev main_v32 : Ref sig .tc := ⟨.hbm, 185, rfl⟩
abbrev main_v33 : Ref sig .tc := ⟨.hbm, 186, rfl⟩
abbrev main_cst_10 : Ref sig .tc := ⟨.hbm, 187, rfl⟩
abbrev main_v34 : Ref sig .tc := ⟨.hbm, 188, rfl⟩
abbrev main_v35 : Ref sig .tc := ⟨.hbm, 189, rfl⟩
abbrev main_v36 : Ref sig .tc := ⟨.hbm, 190, rfl⟩
abbrev main_v37 : Ref sig .tc := ⟨.hbm, 191, rfl⟩
abbrev main_cst_11 : Ref sig .tc := ⟨.hbm, 192, rfl⟩
abbrev main_v38 : Ref sig .tc := ⟨.hbm, 193, rfl⟩
abbrev main_cst_12 : Ref sig .tc := ⟨.hbm, 194, rfl⟩
abbrev main_v39 : Ref sig .tc := ⟨.hbm, 195, rfl⟩
abbrev main_v40 : Ref sig .tc := ⟨.hbm, 196, rfl⟩
abbrev main_v41 : Ref sig .tc := ⟨.hbm, 197, rfl⟩
abbrev main_cst_13 : Ref sig .tc := ⟨.hbm, 198, rfl⟩
abbrev main_v42 : Ref sig .tc := ⟨.hbm, 199, rfl⟩
abbrev main_v43 : Ref sig .tc := ⟨.hbm, 200, rfl⟩
abbrev main_v44 : Ref sig .tc := ⟨.hbm, 201, rfl⟩
abbrev main_v45 : Ref sig .tc := ⟨.hbm, 202, rfl⟩
abbrev main_cst_14 : Ref sig .tc := ⟨.hbm, 203, rfl⟩
abbrev main_v46 : Ref sig .tc := ⟨.hbm, 204, rfl⟩
abbrev main_cst_15 : Ref sig .tc := ⟨.hbm, 205, rfl⟩
abbrev main_v47 : Ref sig .tc := ⟨.hbm, 206, rfl⟩
abbrev main_v48 : Ref sig .tc := ⟨.hbm, 207, rfl⟩
abbrev main_v49 : Ref sig .tc := ⟨.hbm, 208, rfl⟩
abbrev main_cst_16 : Ref sig .tc := ⟨.hbm, 209, rfl⟩
abbrev main_v50 : Ref sig .tc := ⟨.hbm, 210, rfl⟩
abbrev main_v51 : Ref sig .tc := ⟨.hbm, 211, rfl⟩
abbrev main_v52 : Ref sig .tc := ⟨.hbm, 212, rfl⟩
abbrev main_v53 : Ref sig .tc := ⟨.hbm, 213, rfl⟩
abbrev main_cst_17 : Ref sig .tc := ⟨.hbm, 214, rfl⟩
abbrev main_v54 : Ref sig .tc := ⟨.hbm, 215, rfl⟩
abbrev main_cst_18 : Ref sig .tc := ⟨.hbm, 216, rfl⟩
abbrev main_v55 : Ref sig .tc := ⟨.hbm, 217, rfl⟩
abbrev main_v56 : Ref sig .tc := ⟨.hbm, 218, rfl⟩
abbrev main_v57 : Ref sig .tc := ⟨.hbm, 219, rfl⟩
abbrev main_v58 : Ref sig .tc := ⟨.hbm, 220, rfl⟩
abbrev main_v59 : Ref sig .tc := ⟨.hbm, 221, rfl⟩
abbrev main_v60 : Ref sig .tc := ⟨.hbm, 222, rfl⟩
abbrev main_v61 : Ref sig .tc := ⟨.hbm, 223, rfl⟩
abbrev main_cst_19 : Ref sig .tc := ⟨.hbm, 224, rfl⟩
abbrev main_v62 : Ref sig .tc := ⟨.hbm, 225, rfl⟩
abbrev main_cst_20 : Ref sig .tc := ⟨.hbm, 226, rfl⟩
abbrev main_v63 : Ref sig .tc := ⟨.hbm, 227, rfl⟩
abbrev main_v64 : Ref sig .tc := ⟨.hbm, 228, rfl⟩
abbrev main_v65 : Ref sig .tc := ⟨.hbm, 229, rfl⟩
abbrev main_v66 : Ref sig .tc := ⟨.hbm, 230, rfl⟩
abbrev main_v67 : Ref sig .tc := ⟨.hbm, 231, rfl⟩
abbrev main_v68 : Ref sig .tc := ⟨.hbm, 232, rfl⟩
abbrev main_v69 : Ref sig .tc := ⟨.hbm, 233, rfl⟩
abbrev main_v70 : Ref sig .tc := ⟨.hbm, 234, rfl⟩
abbrev main_v71 : Ref sig .tc := ⟨.hbm, 235, rfl⟩
abbrev main_v72 : Ref sig .tc := ⟨.hbm, 236, rfl⟩
abbrev main_cst_21 : Ref sig .tc := ⟨.hbm, 237, rfl⟩
abbrev main_v73 : Ref sig .tc := ⟨.hbm, 238, rfl⟩
abbrev main_cst_22 : Ref sig .tc := ⟨.hbm, 239, rfl⟩
abbrev main_v74 : Ref sig .tc := ⟨.hbm, 240, rfl⟩
abbrev main_v75 : Ref sig .tc := ⟨.hbm, 241, rfl⟩
abbrev main_v76 : Ref sig .tc := ⟨.hbm, 242, rfl⟩
abbrev main_v77 : Ref sig .tc := ⟨.hbm, 243, rfl⟩
abbrev main_v78 : Ref sig .tc := ⟨.hbm, 244, rfl⟩
abbrev main_v79 : Ref sig .tc := ⟨.hbm, 245, rfl⟩
abbrev main_cst_23 : Ref sig .tc := ⟨.hbm, 246, rfl⟩
abbrev main_v80 : Ref sig .tc := ⟨.hbm, 247, rfl⟩
abbrev main_cst_24 : Ref sig .tc := ⟨.hbm, 248, rfl⟩
abbrev main_v81 : Ref sig .tc := ⟨.hbm, 249, rfl⟩
abbrev main_v82 : Ref sig .tc := ⟨.hbm, 250, rfl⟩
abbrev main_cst_25 : Ref sig .tc := ⟨.hbm, 251, rfl⟩
abbrev main_v83 : Ref sig .tc := ⟨.hbm, 252, rfl⟩
abbrev main_cst_26 : Ref sig .tc := ⟨.hbm, 253, rfl⟩
abbrev main_v84 : Ref sig .tc := ⟨.hbm, 254, rfl⟩
abbrev main_v85 : Ref sig .tc := ⟨.hbm, 255, rfl⟩
abbrev main_v86 : Ref sig .tc := ⟨.hbm, 256, rfl⟩
abbrev main_v87 : Ref sig .tc := ⟨.hbm, 257, rfl⟩
abbrev main_v88 : Ref sig .tc := ⟨.hbm, 258, rfl⟩
abbrev main_cst_27 : Ref sig .tc := ⟨.hbm, 259, rfl⟩
abbrev main_v89 : Ref sig .tc := ⟨.hbm, 260, rfl⟩
abbrev main_cst_28 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_cst_29 : Ref sig .tc := ⟨.hbm, 267, rfl⟩
abbrev main_v95 : Ref sig .tc := ⟨.hbm, 268, rfl⟩
abbrev main_v96 : Ref sig .tc := ⟨.hbm, 269, rfl⟩
abbrev main_v97 : Ref sig .tc := ⟨.hbm, 270, rfl⟩
abbrev main_v98 : Ref sig .tc := ⟨.hbm, 271, rfl⟩
abbrev main_v99 : Ref sig .tc := ⟨.hbm, 272, rfl⟩
abbrev main_v100 : Ref sig .tc := ⟨.hbm, 273, rfl⟩
abbrev main_v101 : Ref sig .tc := ⟨.hbm, 274, rfl⟩
abbrev main_v102 : Ref sig .tc := ⟨.hbm, 275, rfl⟩
abbrev main_v103 : Ref sig .tc := ⟨.hbm, 276, rfl⟩
abbrev main_v104 : Ref sig .tc := ⟨.hbm, 277, rfl⟩
abbrev main_v105 : Ref sig .tc := ⟨.hbm, 278, rfl⟩
abbrev main_cst_30 : Ref sig .tc := ⟨.hbm, 279, rfl⟩
abbrev main_v106 : Ref sig .tc := ⟨.hbm, 280, rfl⟩

abbrev nD : Nat := 1
abbrev τ : Topo := Topo.v7x

variable {F : FTy → Type} [FloatOps F]
-- ==== Proof.KernelIdealB.lean ====
/- The body of `KernelIdeal` at its second grid point: what its run leaves in the buffers. The set-up follows the generated
   module of the same case; what is added are the closed forms of the three load offsets. -/
module

public import proofs.«01_k».proof.Proof.Gen.KernelIdeal.Frame.RunA

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The column at which the second grid point reads the carried means is 0: the block number is taken modulo one. -/
theorem off2_eq : ∀ i : grid0.Coords, k0_off2 i = ![5, 0] := by decide +kernel
theorem off3_eq : ∀ i : grid0.Coords, k0_off3 i = ![6, 0] := by decide +kernel
theorem off4_eq : ∀ i : grid0.Coords, k0_off4 i = ![7, 0] := by decide +kernel

instance closedOff2 (i : grid0.Coords) : ClosedOff (k0_off2 i) := ⟨![5, 0], off2_eq i⟩
instance closedOff3 (i : grid0.Coords) : ClosedOff (k0_off3 i) := ⟨![6, 0], off3_eq i⟩
instance closedOff4 (i : grid0.Coords) : ClosedOff (k0_off4 i) := ⟨![7, 0], off4_eq i⟩

set_option maxHeartbeats 1000000 in
/-- The body at the second point: run from the inputs' contents and the scratch as the first point left it, it gives the inputs back and leaves in the scratch the pieces found here. -/
noncomputable def kernelRun0_B (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : cond0_2 i) (hc3 : ¬cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) :
    Σ' (L14 : List (View.Piece (Elt F) S1x1024 .f32)), Σ' (L15 : List (View.Piece (Elt F) S1x128 .f32)), { LS0 : List (View.Piece (Elt F) S8x1024 .f32) //
      ∀ (xi14 : Vec F S1x1024 .f32) (xi15 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xi15 ∗ owns (c : Thread nD τ) arg17 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xi15 ∗ (arg17.view.loc (c : Thread nD τ) ↦[arg17.view.set]{fullShare} arg17.view.writes (Elt F) (harg17.unread xs0) LS0)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, fun xi14 xi15 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    iexact HS0

end Cert.KernelIdeal.Hand

end
-- ==== Proof.KernelIdealC.lean ====
/- The body of `KernelIdeal` at its last grid point: what its run leaves in the buffers, set up as in the generated module. -/
module

public import proofs.«01_k».proof.Proof.KernelIdealB

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point: run from the inputs' contents and the scratch as the second point left it, it gives the inputs and the scratch back and leaves in the outputs the pieces found here. -/
noncomputable def kernelRun0_C (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : ¬cond0_2 i) (hc3 : cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) :
    Σ' (L14 : List (View.Piece (Elt F) S1x1024 .f32)), Σ' (L15 : List (View.Piece (Elt F) S1x128 .f32)), { LS0 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], fun E K => ?run⟩
  case run =>
    simp only [cc0__body_eq_skeleton]; unfold cc0__body_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    iexists _; isplitr; · ipureintro; exact harg17.read_unread _
    iexact HS0

end Cert.KernelIdeal.Hand

end
-- ==== Proof.KernelIdealFrame.lean ====
/- The run of `KernelIdeal` over its three grid points and its frame, over the case runs of this directory; set up as in the
   generated module. -/
module

public import proofs.«01_k».proof.Proof.KernelIdealC
public import Idealize.ShloMosaic.Lib.Claim

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 14 (the window is idle at its points and not written back there):
    no pieces — a placeholder (junk read back) that nothing consults, since at these points the window is neither
    written back nor read at the next point (Lib/Pipeline.lean "Idle points"). -/
def out0_A_14 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : cond0_0 i) (hc1 : cond0_1 i) (hc2 : ¬cond0_2 i) (hc3 : ¬cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) : Vec F S1x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13).1)

/-- Case A stores nothing into output 15 (the window is idle at its points and not written back there):
    no pieces — a placeholder (junk read back) that nothing consults, since at these points the window is neither
    written back nor read at the next point (Lib/Pipeline.lean "Idle points"). -/
def out0_A_15 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : cond0_0 i) (hc1 : cond0_1 i) (hc2 : ¬cond0_2 i) (hc3 : ¬cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) : Vec F S1x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13).2.1)

/-- Case A's pieces for scratch `arg17`, which the kernel carries between points, cover it: one of them a store of the WHOLE buffer (Lib/Ring.lean `sl_whole_mem`). -/
theorem scover0_A_0 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : cond0_0 i) (hc1 : cond0_1 i) (hc2 : ¬cond0_2 i) (hc3 : ¬cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13).2.2.1 (by sl_whole_mem) y

/-- What case A leaves in scratch `arg17`: its pieces read back over junk. -/
def sout0_A_0 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : cond0_0 i) (hc1 : cond0_1 i) (hc2 : ¬cond0_2 i) (hc3 : ¬cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) : Vec F S8x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13).2.2.1)

/-- Case B stores nothing into output 14 (the window is idle at its points and not written back there):
    no pieces — a placeholder (junk read back) that nothing consults, since at these points the window is neither
    written back nor read at the next point (Lib/Pipeline.lean "Idle points"). -/
def out0_B_14 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : cond0_2 i) (hc3 : ¬cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) : Vec F S1x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).1)

/-- Case B stores nothing into output 15 (the window is idle at its points and not written back there):
    no pieces — a placeholder (junk read back) that nothing consults, since at these points the window is neither
    written back nor read at the next point (Lib/Pipeline.lean "Idle points"). -/
def out0_B_15 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : cond0_2 i) (hc3 : ¬cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) : Vec F S1x128 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).2.1)

/-- What case B leaves in scratch `arg17`: its pieces (stores, a counted loop's segment) read back over what the point before left there, which it read first. -/
def sout0_B_0 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : cond0_2 i) (hc3 : ¬cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) : Vec F S8x1024 .f32 :=
  arg17.view.read (Elt F) (arg17.view.writes (Elt F) (harg17.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).2.2.1)

/-- Case C's pieces for output 14 tile its block (1 store of `S1x1024`), so they cover it. -/
theorem cover0_C_14 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : ¬cond0_2 i) (hc3 : cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) (y : S1x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).1 S1x1024.size (by sl_kernel_rfl) y

/-- What case C leaves in output 14's staging buffer: its pieces read back over junk. -/
def out0_C_14 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : ¬cond0_2 i) (hc3 : cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) : Vec F S1x1024 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).1)

/-- Case C's pieces for output 15 tile its block (1 store of `S1x128`), so they cover it. -/
theorem cover0_C_15 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : ¬cond0_2 i) (hc3 : cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).2.1 S1x128.size (by sl_kernel_rfl) y

/-- What case C leaves in output 15's staging buffer: its pieces read back over junk. -/
def out0_C_15 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : ¬cond0_2 i) (hc3 : cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) : Vec F S1x128 .f32 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0).2.1)

/-- Case C stores nothing into scratch `arg17`: it holds what the point before left. -/
def sout0_C_0 (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole) (hc0 : ¬cond0_0 i) (hc1 : ¬cond0_1 i) (hc2 : ¬cond0_2 i) (hc3 : cond0_3 i)
    (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32) : Vec F S8x1024 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024 .f32 × Vec F S1x128 .f32 × Vec F S8x1024 .f32
  | 0, hn => (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h0 : (n + 1) % 3 = 0 then
      if h1 : (n + 1) % 3 = 0 then
        if h2 : (n + 1) % 3 = 1 then
          False.elim (by have hN : n + 1 < 3 := lt_of_lt_of_eq hn (show cfg0.N = 3 from N_0); omega)
        else
          if h3 : (n + 1) % 3 = 2 then
            False.elim (by have hN : n + 1 < 3 := lt_of_lt_of_eq hn (show cfg0.N = 3 from N_0); omega)
          else
            (out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩))
      else
        False.elim (by have hN : n + 1 < 3 := lt_of_lt_of_eq hn (show cfg0.N = 3 from N_0); omega)
    else
      if h1 : (n + 1) % 3 = 0 then
        False.elim (by have hN : n + 1 < 3 := lt_of_lt_of_eq hn (show cfg0.N = 3 from N_0); omega)
      else
        if h2 : (n + 1) % 3 = 1 then
          if h3 : (n + 1) % 3 = 2 then
            False.elim (by have hN : n + 1 < 3 := lt_of_lt_of_eq hn (show cfg0.N = 3 from N_0); omega)
          else
            (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2)
        else
          if h3 : (n + 1) % 3 = 2 then
            (out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2.2)
          else
            False.elim (by have hN : n + 1 < 3 := lt_of_lt_of_eq hn (show cfg0.N = 3 from N_0); omega)

/-- `outsAt0` at a point of case A: that case's contents. -/
theorem outsAt0_A (c : Dev nD) (t : Fin cfg0.N) (h0 : t.val % 3 = 0) (h1 : t.val % 3 = 0) (h2 : ¬t.val % 3 = 1) (h3 : ¬t.val % 3 = 2) :
    outsAt0 m c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 3 = 0) (h1 : ¬t.val % 3 = 0) (h2 : t.val % 3 = 1) (h3 : ¬t.val % 3 = 2) :
    outsAt0 m c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case C: that case's contents, over what the point before left. -/
theorem outsAt0_C (c : Dev nD) (t : Fin cfg0.N) (h0 : ¬t.val % 3 = 0) (h1 : ¬t.val % 3 = 0) (h2 : ¬t.val % 3 = 1) (h3 : t.val % 3 = 2) :
    outsAt0 m c t.val t.isLt = (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨_ + 16, h⟩ => absurd h (Nat.not_lt.2 (Nat.le_add_left _ _))
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 19200000 in
/-- The body at any point: the point is in one of the three cases, whose run applies to the inputs' blocks and to the scratch as the point
    before left it; what it leaves is what the invariant after the point names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 3 := lt_of_lt_of_eq t.isLt (show cfg0.N = 3 from N_0)
  by_cases h0 : t.val % 3 = 0
  · by_cases h1 : t.val % 3 = 0
    · by_cases h2 : t.val % 3 = 1
      · exfalso; omega
      · by_cases h3 : t.val % 3 = 2
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13 t], after0_13]
          rw [Dat.leavesExact_idle (dats m 0 c) 14 t (idleAt0_14_A t ((hcond0_0 t).mpr h0) ((hcond0_1 t).mpr h1) (fun h => h2 ((hcond0_2 t).mp h)) (fun h => h3 ((hcond0_3 t).mp h))) (noFlush0_14_A t ((hcond0_0 t).mpr h0) ((hcond0_1 t).mpr h1) (fun h => h2 ((hcond0_2 t).mp h)) (fun h => h3 ((hcond0_3 t).mp h)))]
          rw [Dat.leavesExact_idle (dats m 0 c) 15 t (idleAt0_15_A t ((hcond0_0 t).mpr h0) ((hcond0_1 t).mpr h1) (fun h => h2 ((hcond0_2 t).mp h)) (fun h => h3 ((hcond0_3 t).mp h))) (noFlush0_15_A t ((hcond0_0 t).mpr h0) ((hcond0_1 t).mpr h1) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
            iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [HS0]; · iexact HS0
            iintro ⟨H0, H1, H2, H3, H4, H5, H6, H7, H8, H9, H10, H11, H12, H13, H14, H15, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            iexists _; iexact H15
          · exfalso; have hN : t.val < 3 := lt_of_lt_of_eq t.isLt (show cfg0.N = 3 from N_0); omega
    · exfalso; omega
  · by_cases h1 : t.val % 3 = 0
    · exfalso; omega
    · by_cases h2 : t.val % 3 = 1
      · by_cases h3 : t.val % 3 = 2
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13 t], after0_13]
          rw [Dat.leavesExact_idle (dats m 0 c) 14 t (idleAt0_14_B t (fun h => h0 ((hcond0_0 t).mp h)) (fun h => h1 ((hcond0_1 t).mp h)) ((hcond0_2 t).mpr h2) (fun h => h3 ((hcond0_3 t).mp h))) (noFlush0_14_B t (fun h => h0 ((hcond0_0 t).mp h)) (fun h => h1 ((hcond0_1 t).mp h)) ((hcond0_2 t).mpr h2) (fun h => h3 ((hcond0_3 t).mp h)))]
          rw [Dat.leavesExact_idle (dats m 0 c) 15 t (idleAt0_15_B t (fun h => h0 ((hcond0_0 t).mp h)) (fun h => h1 ((hcond0_1 t).mp h)) ((hcond0_2 t).mpr h2) (fun h => h3 ((hcond0_3 t).mp h))) (noFlush0_15_B t (fun h => h0 ((hcond0_0 t).mp h)) (fun h => h1 ((hcond0_1 t).mp h)) ((hcond0_2 t).mpr h2) (fun h => h3 ((hcond0_3 t).mp h)))]
          by_cases hz : t.val = 0
          · exfalso; have hN : t.val < 3 := lt_of_lt_of_eq t.isLt (show cfg0.N = 3 from N_0); omega
          · rw [PhiS_castSucc m c t, PhiS_pos m c _ _ hz]
            rw [outsAt0_B m c t h0 h1 h2 h3]
            unfold sout0_B_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
            iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [HS0]; · iexact HS0
            iintro ⟨H0, H1, H2, H3, H4, H5, H6, H7, H8, H9, H10, H11, H12, H13, H14, H15, HS0⟩
            isplitl [HS0 Hg]
            · isplitl [HS0]
              · unfold owns; iexists _; isplitr
                swap; · iexact HS0
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            iexists _; iexact H15
      · by_cases h3 : t.val % 3 = 2
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12 t], after0_12]
          rw [show (dats m 0 c).leavesExact 13 t = owns (c : Thread nD τ) (ms0_13 t) fullShare ((dats m 0 c).after 13 t) from by
      unfold Dat.leavesExact; rw [liveAt0_13 t], after0_13]
          rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) (fun h => h2 ((hcond0_2 t).mp h)) ((hcond0_3 t).mpr h3)], after0_14]
          rw [show (dats m 0 c).leavesExact 15 t = owns (c : Thread nD τ) (ms0_15 t) fullShare ((dats m 0 c).after 15 t) from by
      unfold Dat.leavesExact; rw [liveAt0_15_C t (fun h => h0 ((hcond0_0 t).mp h)) (fun h => h1 ((hcond0_1 t).mp h)) (fun h => h2 ((hcond0_2 t).mp h)) ((hcond0_3 t).mpr h3)], after0_15]
          by_cases hz : t.val = 0
          · exfalso; have hN : t.val < 3 := lt_of_lt_of_eq t.isLt (show cfg0.N = 3 from N_0); omega
          · rw [PhiS_castSucc m c t, PhiS_pos m c _ _ hz]
            rw [outsAt0_C m c t h0 h1 h2 h3]
            unfold out0_C_14 out0_C_15 sout0_C_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
            iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            isplitl [H15]; · iexists _; iexact H15
            isplitl [HS0]; · iexact HS0
            iintro ⟨H0, H1, H2, H3, H4, H5, H6, H7, H8, H9, H10, H11, H12, H13, ⟨%e14, H14⟩, ⟨%e15, H15⟩, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]
            · unfold owns; iexists _; isplitr
              swap; · iexact H14
              ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H15
            ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 3 := N_0; omega)

/-! ## The run and the frame -/

set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- For any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame, over any reading of the floats: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Hand

end
-- ==== Proof.Words.lean ====
/- jnp's lowered floor division and remainder of a 32-bit integer by a positive constant, read as the integer quotient and
   remainder rounded down, at every word. -/
module

public import Idealize.ShloMosaic.Lib.Pointwise

@[expose] public section

open Idealize.ShloMosaic

namespace Cert.Lattice

theorem divsi_pos (x d : BitVec 32) (hd : 0 < d.toInt) : (IntOp.divsi .host x d).toInt = x.toInt.tdiv d.toInt := by
  have h1 : ¬ IntOp.SDivCorner x d := by
    rintro (h | ⟨_, h⟩) <;> rw [h] at hd <;> revert hd <;> decide
  unfold IntOp.divsi
  rw [if_neg h1]
  refine BitVec.toInt_sdiv_of_ne_or_ne x d (.inr ?_)
  rintro rfl
  revert hd
  decide

theorem remsi_pos (x d : BitVec 32) (hd : 0 < d.toInt) : (IntOp.remsi .host x d).toInt = x.toInt.tmod d.toInt := by
  have h1 : ¬ IntOp.SDivCorner x d := by
    rintro (h | ⟨_, h⟩) <;> rw [h] at hd <;> revert hd <;> decide
  unfold IntOp.remsi
  rw [if_neg h1]
  exact BitVec.toInt_srem x d

theorem select_ofBool {α : Type} (b : Bool) (x y : α) : Scalar.select (BitVec.ofBool b) x y = if b = true then x else y := by
  cases b <;> rfl

theorem msb_iff (x : BitVec 32) : x.msb = true ↔ x.toInt < 0 := by
  rw [BitVec.msb_eq_toInt, decide_eq_true_iff]

/-- The lowered floor division by a positive word is the quotient rounded down. -/
theorem floor_word (x d : BitVec 32) (hd : 0 < d.toInt) :
    (Scalar.select
      (IntOp.andi
        (IntOp.cmpi .ne (if x = 0 then (0 : BitVec 32) else if BitVec.msb x = true then -1 else 1)
          (if d = 0 then (0 : BitVec 32) else if BitVec.msb d = true then -1 else 1))
        (IntOp.cmpi .ne (IntOp.remsi .host x d) 0#32))
      (IntOp.subi (IntOp.divsi .host x d) 1#32)
      (IntOp.divsi .host x d)).toInt = x.toInt / d.toInt := by
  have hd0 : d ≠ 0 := by rintro rfl; revert hd; decide
  have hdm : d.msb = false := by
    rw [BitVec.msb_eq_toInt]; simpa using hd.le
  have hq := divsi_pos x d hd
  have hr := remsi_pos x d hd
  have hx' : -2 ^ 31 ≤ x.toInt := BitVec.le_toInt (x := x)
  have hx : x.toInt < 2 ^ 31 := BitVec.toInt_lt (x := x)
  generalize hq' : IntOp.divsi .host x d = q at *
  generalize hr' : IntOp.remsi .host x d = r at *
  rw [Int.tdiv_eq_ediv, Int.sign_eq_one_of_pos hd] at hq
  rw [Int.tmod_eq_emod] at hr
  have hz : x.toInt = 0 ↔ x = 0 := by rw [← BitVec.toInt_inj]; rfl
  have hrz : r.toInt = 0 ↔ r = 0 := by rw [← BitVec.toInt_inj]; rfl
  have e1 := Int.emod_nonneg x.toInt hd.ne'
  have e2 := Int.emod_lt_of_pos x.toInt hd
  simp only [IntOp.andi, IntOp.cmpi, BitVec.ofBool_and_ofBool, select_ofBool, IntOp.subi, if_neg hd0, hdm, Bool.false_eq_true,
    if_false]
  by_cases h0 : x = 0
  · have h0' : x.toInt = 0 := hz.2 h0
    have : r = 0 := hrz.1 (by rw [hr, if_pos (Or.inl h0'.ge), h0', Int.zero_emod]; rfl)
    subst this
    rw [if_neg (by simp), hq, if_pos (Or.inl h0'.ge)]
    omega
  · by_cases hm : x.msb = true
    · have hneg : x.toInt < 0 := (msb_iff x).1 hm
      by_cases hdv : d.toInt ∣ x.toInt
      · have : r = 0 := hrz.1 (by rw [hr, if_pos (Or.inr hdv), Int.emod_eq_zero_of_dvd hdv]; rfl)
        subst this
        rw [if_neg (by simp), hq, if_pos (Or.inr hdv)]
        omega
      · have hno : ¬ (0 ≤ x.toInt ∨ d.toInt ∣ x.toInt) := by rintro (h | h) <;> [omega; exact hdv h]
        have : r ≠ 0 := fun h => by
          have := hrz.2 h
          rw [hr, if_neg hno] at this
          omega
        rw [if_neg hno] at hq
        have lo : -2 ^ 31 ≤ x.toInt / d.toInt := Int.le_ediv_of_mul_le hd (by nlinarith)
        have hi : x.toInt / d.toInt < 0 := Int.ediv_neg_of_neg_of_pos hneg hd
        have h1 : ((-1 : BitVec 32) != 1) = true := by decide
        simp only [if_neg h0, hm, if_true]
        rw [if_pos (by rw [Bool.and_eq_true]; exact ⟨h1, bne_iff_ne.2 this⟩), BitVec.toInt_sub]
        rw [show (1#32 : BitVec 32).toInt = 1 from rfl, hq]
        rw [Int.bmod_eq_of_le (by omega) (by omega)]
        omega
    · have hm' : x.msb = false := by simpa using hm
      have hnn : 0 ≤ x.toInt := by
        by_contra h
        exact hm ((msb_iff x).2 (by omega))
      simp only [if_neg h0, hm', Bool.false_eq_true, if_false]
      rw [if_neg (by simp), hq, if_pos (Or.inl hnn)]
      omega

/-- The lowered remainder by a positive word is the remainder rounded down. -/
theorem mod_word (x d : BitVec 32) (hd : 0 < d.toInt) :
    (Scalar.select
      (IntOp.andi
        (IntOp.cmpi .ne
          (IntOp.cmpi .slt (IntOp.remsi .host x (Scalar.select (IntOp.cmpi .eq d 0#32) 1#32 d)) 0#32)
          (IntOp.cmpi .slt (Scalar.select (IntOp.cmpi .eq d 0#32) 1#32 d) 0#32))
        (IntOp.cmpi .ne (IntOp.remsi .host x (Scalar.select (IntOp.cmpi .eq d 0#32) 1#32 d)) 0#32))
      (IntOp.addi (IntOp.remsi .host x (Scalar.select (IntOp.cmpi .eq d 0#32) 1#32 d))
        (Scalar.select (IntOp.cmpi .eq d 0#32) 1#32 d))
      (IntOp.remsi .host x (Scalar.select (IntOp.cmpi .eq d 0#32) 1#32 d))).toInt = x.toInt % d.toInt := by
  have hd0 : d ≠ 0 := by rintro rfl; revert hd; decide
  have hdd : Scalar.select (IntOp.cmpi .eq d 0#32) 1#32 d = d := by
    simp only [IntOp.cmpi, select_ofBool]
    exact if_neg (by simpa using hd0)
  rw [hdd]
  have hr := remsi_pos x d hd
  have hd' : d.toInt < 2 ^ 31 := BitVec.toInt_lt (x := d)
  generalize hr' : IntOp.remsi .host x d = r at *
  rw [Int.tmod_eq_emod] at hr
  have hrz : r.toInt = 0 ↔ r = 0 := by rw [← BitVec.toInt_inj]; rfl
  have e1 := Int.emod_nonneg x.toInt hd.ne'
  have e2 := Int.emod_lt_of_pos x.toInt hd
  have hds : d.slt 0#32 = false := by
    rw [BitVec.slt_eq_decide]; exact decide_eq_false (by rw [show (0#32 : BitVec 32).toInt = 0 from rfl]; omega)
  have hrs : r.slt 0#32 = decide (r.toInt < 0) := by rw [BitVec.slt_eq_decide]; rfl
  have hN : (d.toInt.natAbs : ℤ) = d.toInt := Int.natAbs_of_nonneg hd.le
  simp only [IntOp.andi, IntOp.cmpi, BitVec.ofBool_and_ofBool, select_ofBool, IntOp.addi, hds, hrs]
  by_cases hno : 0 ≤ x.toInt ∨ d.toInt ∣ x.toInt
  · rw [if_pos hno, Nat.cast_zero, sub_zero] at hr
    rw [if_neg, hr]
    rw [Bool.and_eq_true]
    rintro ⟨h, _⟩
    rw [decide_eq_false (by omega)] at h
    revert h
    decide
  · rw [if_neg hno, hN] at hr
    have hne : x.toInt % d.toInt ≠ 0 := fun h => hno (.inr (Int.dvd_of_emod_eq_zero h))
    rw [if_pos, BitVec.toInt_add, hr]
    · rw [Int.bmod_eq_of_le (by omega) (by omega)]; omega
    · rw [Bool.and_eq_true]
      refine ⟨?_, bne_iff_ne.2 fun h => ?_⟩
      · rw [decide_eq_true (by omega)]; decide
      · have := hrz.2 h; omega

end Cert.Lattice

end
-- ==== Proof.Spec.lean ====
/- The mathematics both programs compute: lattice coordinates of a cell number, squared distances, the three distance classes,
   masked means, a two-part linear layer and a softmax over three scores, with the arithmetic facts the two sides meet on. -/
module

public import proofs.«01_k».proof.Proof.Words

@[expose] public section

set_option maxRecDepth 16384

noncomputable section

open Idealize.ShloMosaic

namespace Cert.Lattice

/-! ### Definitions -/

/-- The three lattice coordinates of a cell number, on a lattice of side 27. -/
def cx (b : BitVec 32) : ℤ := b.toInt / 729
def cy (b : BitVec 32) : ℤ := b.toInt / 27 % 27
def cz (b : BitVec 32) : ℤ := b.toInt % 27

/-- The squared lattice distance of two cells. -/
def dist2 (a b : BitVec 32) : ℤ :=
  (cx a - cx b) * (cx a - cx b) + (cy a - cy b) * (cy a - cy b) + (cz a - cz b) * (cz a - cz b)

/-- The indicator of a proposition. -/
def ind (p : Prop) [Decidable p] : EReal := if p then 1 else 0

/-- The three distance classes: at most 1.8, from there to 4.5, beyond 4.5. -/
def near (d : ℤ) : EReal := ind (d ≤ 3)
def mid (d : ℤ) : EReal := ind (3 < d ∧ d ≤ 20)
def far (d : ℤ) : EReal := ind (20 < d)

/-- The masked mean of the rows of `ns`: their sum where the mask is one, over the mask's count or one. -/
def mean (m : Fin 26 → EReal) (ns : Fin 26 → Fin 1024 → EReal) (d : Fin 1024) : EReal :=
  Ideal.div (∑ k, ns k d * m k) (max (∑ k, m k) 1)

/-- The mean of all 26 rows. -/
def avg (ns : Fin 26 → Fin 1024 → EReal) (d : Fin 1024) : EReal :=
  Ideal.div (∑ k, ns k d) (Ideal.ofBits .f32 0x41D00000#32)

/-- A linear layer on the concatenation of two vectors of 1024. -/
def lin {n : ℕ} (a b : Fin 1024 → EReal) (W : Fin 2048 → Fin n → EReal) (o : Fin n) : EReal :=
  (∑ k : Fin 1024, a k * W ⟨k.val, by omega⟩ o) + ∑ k : Fin 1024, b k * W ⟨1024 + k.val, by omega⟩ o

/-- The greatest of three scores, and their softmax. -/
def top (g : Fin 3 → EReal) : EReal := Finset.univ.fold max ⊥ g
def soft (g : Fin 3 → EReal) (o : Fin 3) : EReal :=
  Ideal.div (Ideal.exp (g o - top g)) (∑ x, Ideal.exp (g x - top g))

/-! ### Integers among the extended reals -/

/-- An integer as an extended real. -/
def zz (n : ℤ) : EReal := ((n : ℝ) : EReal)

theorem zz_sub (a b : ℤ) : zz a - zz b = zz (a - b) := by
  unfold zz; rw [← EReal.coe_sub]; push_cast; rfl
theorem zz_add (a b : ℤ) : zz a + zz b = zz (a + b) := by
  unfold zz; rw [← EReal.coe_add]; push_cast; rfl
theorem zz_mul (a b : ℤ) : zz a * zz b = zz (a * b) := by
  unfold zz; rw [← EReal.coe_mul]; push_cast; rfl

theorem ofBits_27 : Ideal.ofBits .f32 1104674816#32 = zz 27 := by
  unfold zz; simp [Ideal.ofBits, Ideal.ieee, -EReal.coe_mul]; norm_num
theorem ofBits_26 : Ideal.ofBits .f32 0x41D00000#32 = ((26 : ℝ) : EReal) := by
  simp [Ideal.ofBits, Ideal.ieee, -EReal.coe_mul]; norm_num
theorem ofBits_half : Ideal.ofBits .f32 1056964608#32 = ((1 / 2 : ℝ) : EReal) := by
  simp [Ideal.ofBits, Ideal.ieee, -EReal.coe_mul]; norm_num
theorem ofBits_3h : Ideal.ofBits .f32 1080033280#32 = ((7 / 2 : ℝ) : EReal) := by
  simp [Ideal.ofBits, Ideal.ieee, -EReal.coe_mul]; norm_num
theorem ofBits_20h : Ideal.ofBits .f32 1101266944#32 = ((41 / 2 : ℝ) : EReal) := by
  simp [Ideal.ofBits, Ideal.ieee, -EReal.coe_mul]; norm_num
theorem ofBits_18 : Ideal.ofBits .f32 1072064102#32 = ((15099494 / 8388608 : ℝ) : EReal) := by
  simp [Ideal.ofBits, Ideal.ieee, -EReal.coe_mul]; norm_num
theorem ofBits_45 : Ideal.ofBits .f32 1083179008#32 = ((9 / 2 : ℝ) : EReal) := by
  simp [Ideal.ofBits, Ideal.ieee, -EReal.coe_mul]; norm_num
theorem ofBits_bot : Ideal.ofBits .f32 4286578688#32 = ⊥ := by
  simp [Ideal.ofBits, Ideal.ieee]

/-- Half a step above an integer, times the reciprocal of a positive integer, rounds down to the integer quotient. -/
theorem floor_half (v : ℤ) (n : ℕ) (hn : 0 < n) : ⌊((v : ℝ) + 1 / 2) * ((n : ℝ)⁻¹)⌋ = v / n := by
  have hn' : (0 : ℝ) < n := by exact_mod_cast hn
  have hz : (0 : ℤ) < n := by exact_mod_cast hn
  have e := Int.mul_ediv_add_emod v n
  have e1 := Int.emod_nonneg v hz.ne'
  have e2 := Int.emod_lt_of_pos v hz
  generalize v / (n : ℤ) = q at *
  generalize v % (n : ℤ) = r at *
  have e' : (v : ℝ) = n * q + r := by rw [← e]; push_cast; ring
  have e1' : (0 : ℝ) ≤ r := by exact_mod_cast e1
  have e2' : (r : ℝ) + 1 ≤ n := by exact_mod_cast e2
  rw [Int.floor_eq_iff, ← div_eq_mul_inv, le_div_iff₀ hn', div_lt_iff₀ hn', e']
  constructor <;> nlinarith

/-- The same in the extended reals. -/
theorem liftFloor (v : ℤ) (n : ℕ) (hn : 0 < n) :
    Ideal.liftRound Int.floor ((zz v + ((1 / 2 : ℝ) : EReal)) * (((n : ℝ)⁻¹ : ℝ) : EReal)) = zz (v / n) := by
  unfold zz
  rw [← EReal.coe_add, ← EReal.coe_mul, Ideal.liftRound_coe, floor_half v n hn]

theorem zz_le_3 (d : ℤ) : zz d ≤ ((7 / 2 : ℝ) : EReal) ↔ d ≤ 3 := by
  unfold zz
  rw [EReal.coe_le_coe_iff]
  constructor
  · intro h
    by_contra h'
    have : (4 : ℝ) ≤ d := by exact_mod_cast (by omega : (4 : ℤ) ≤ d)
    linarith
  · intro h
    have : (d : ℝ) ≤ 3 := by exact_mod_cast h
    linarith

theorem zz_le_20 (d : ℤ) : zz d ≤ ((41 / 2 : ℝ) : EReal) ↔ d ≤ 20 := by
  unfold zz
  rw [EReal.coe_le_coe_iff]
  constructor
  · intro h
    by_contra h'
    have : (21 : ℝ) ≤ d := by exact_mod_cast (by omega : (21 : ℤ) ≤ d)
    linarith
  · intro h
    have : (d : ℝ) ≤ 20 := by exact_mod_cast h
    linarith

theorem lt_zz_3 (d : ℤ) : ((7 / 2 : ℝ) : EReal) < zz d ↔ 3 < d := by rw [← not_le, zz_le_3, not_le]
theorem lt_zz_20 (d : ℤ) : ((41 / 2 : ℝ) : EReal) < zz d ↔ 20 < d := by rw [← not_le, zz_le_20, not_le]

theorem sqrt_zz (d : ℤ) (h : 0 ≤ d) : Ideal.sqrt (zz d) = ((Real.sqrt d : ℝ) : EReal) := by
  unfold zz
  rw [Ideal.sqrt_coe, if_neg]
  have : (0 : ℝ) ≤ d := by exact_mod_cast h
  linarith

/-- A distance is at most the first threshold exactly when its square is at most 3, -/
theorem sqrt_le_18 (d : ℤ) (h : 0 ≤ d) : Ideal.sqrt (zz d) ≤ ((15099494 / 8388608 : ℝ) : EReal) ↔ d ≤ 3 := by
  rw [sqrt_zz d h, EReal.coe_le_coe_iff, Real.sqrt_le_left (by norm_num)]
  constructor
  · intro h
    by_contra h'
    have : (4 : ℝ) ≤ d := by exact_mod_cast (by omega : (4 : ℤ) ≤ d)
    norm_num at h
    linarith
  · intro h
    have : (d : ℝ) ≤ 3 := by exact_mod_cast h
    norm_num
    linarith

/-- and at most the second when its square is at most 20. -/
theorem sqrt_le_45 (d : ℤ) (h : 0 ≤ d) : Ideal.sqrt (zz d) ≤ ((9 / 2 : ℝ) : EReal) ↔ d ≤ 20 := by
  rw [sqrt_zz d h, EReal.coe_le_coe_iff, Real.sqrt_le_left (by norm_num)]
  constructor
  · intro h
    by_contra h'
    have : (21 : ℝ) ≤ d := by exact_mod_cast (by omega : (21 : ℤ) ≤ d)
    norm_num at h
    linarith
  · intro h
    have : (d : ℝ) ≤ 20 := by exact_mod_cast h
    norm_num
    linarith

theorem dist2_nonneg (a b : BitVec 32) : 0 ≤ dist2 a b := by
  unfold dist2
  exact add_nonneg (add_nonneg (mul_self_nonneg _) (mul_self_nonneg _)) (mul_self_nonneg _)

/-! ### Indicators -/

theorem sitofp_bool (b : Bool) :
    FloatOps.sitofp (F := Ideal) .f32 (BitVec.setWidth 32 (BitVec.ofBool b)) = ind (b = true) := by
  cases b
  · show (((BitVec.setWidth 32 (BitVec.ofBool false)).toInt : ℝ) : EReal) = _
    simp [ind]
  · show (((BitVec.setWidth 32 (BitVec.ofBool true)).toInt : ℝ) : EReal) = _
    rw [show (BitVec.setWidth 32 (BitVec.ofBool true)).toInt = 1 by decide]
    simp [ind]

theorem uitofp_bool (b : Bool) : FloatOps.uitofp (F := Ideal) .f32 (BitVec.ofBool b) = ind (b = true) := by
  cases b
  · show (((BitVec.ofBool false).toNat : ℝ) : EReal) = _
    simp [ind]
  · show (((BitVec.ofBool true).toNat : ℝ) : EReal) = _
    simp [ind]

theorem sitofp_zz (b : BitVec 32) : FloatOps.sitofp (F := Ideal) .f32 b = zz b.toInt := rfl

theorem ind_congr {p q : Prop} [Decidable p] [Decidable q] (h : p ↔ q) : ind p = ind q := by
  unfold ind; simp only [h]

theorem ind_zz (p : Prop) [Decidable p] : ind p = ((if p then 1 else 0 : ℝ) : EReal) := by
  unfold ind; split <;> simp

/-! ### Sums -/

/-- A sum over 32 lanes whose last six vanish is the sum over the first 26. -/
theorem sum32 (f : Fin 32 → EReal) (h : ∀ k : Fin 32, 26 ≤ k.val → f k = 0) :
    ∑ k, f k = ∑ k : Fin 26, f ⟨k.val, by omega⟩ := by
  have := Fin.sum_univ_add (a := 26) (b := 6) f
  refine this.trans ?_
  rw [Finset.sum_eq_zero (s := Finset.univ) (f := fun i : Fin 6 => f (Fin.natAdd 26 i))
    (fun i _ => h _ (by show 26 ≤ 26 + i.val; omega)), add_zero]
  rfl

/-- A nonnegative finite factor leaves a sum. -/
theorem sum_mul_coe {ι : Type} (s : Finset ι) (f : ι → EReal) (c : ℝ) (hc : 0 ≤ c) :
    ∑ k ∈ s, f k * (c : EReal) = (∑ k ∈ s, f k) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- A sum of indicators is a finite count. -/
theorem sum_ind {ι : Type} (s : Finset ι) (p : ι → Prop) [∀ k, Decidable (p k)] :
    ∑ k ∈ s, ind (p k) = (((∑ k ∈ s, if p k then 1 else 0 : ℝ) : ℝ) : EReal) := by
  classical
  induction s using Finset.induction_on with
  | empty => simp
  | insert a s ha ih => rw [Finset.sum_insert ha, Finset.sum_insert ha, ih, ind_zz, EReal.coe_add]

/-- The weighted sum over 32 padded lanes, each weight a mask over its count, is the masked mean over the 26 rows. -/
theorem mean_of_lanes (p : Fin 26 → Prop) [∀ k, Decidable (p k)] (m y : Fin 32 → EReal) (z : EReal)
    (ns : Fin 26 → Fin 1024 → EReal) (d : Fin 1024)
    (hm : ∀ k : Fin 26, m ⟨k.val, by omega⟩ = ind (p k)) (h0 : ∀ k : Fin 32, 26 ≤ k.val → m k = 0)
    (hy : ∀ k : Fin 26, y ⟨k.val, by omega⟩ = ns k d) (hz : z = max (∑ k, m k) 1) :
    ∑ k, Ideal.div (m k) z * y k = mean (fun k => ind (p k)) ns d := by
  have hs : ∑ k, m k = ∑ k : Fin 26, ind (p k) := by
    rw [sum32 m h0]; exact Finset.sum_congr rfl fun k _ => hm k
  have hcoe : max (∑ k : Fin 26, ind (p k)) 1
      = ((max (∑ k : Fin 26, if p k then 1 else 0 : ℝ) 1 : ℝ) : EReal) := by
    rw [sum_ind, ← EReal.coe_one, EReal.coe_strictMono.monotone.map_max]
  have hpos : (0 : ℝ) < max (∑ k : Fin 26, if p k then 1 else 0 : ℝ) 1 := lt_max_of_lt_right one_pos
  have hz' : z = ((max (∑ k : Fin 26, if p k then 1 else 0 : ℝ) 1 : ℝ) : EReal) := by rw [hz, hs, hcoe]
  unfold mean
  rw [hcoe, Ideal.div_coe hpos.ne', ← sum_mul_coe _ _ _ (by positivity), hz']
  rw [sum32 (fun k => Ideal.div (m k) _ * y k)]
  · refine Finset.sum_congr rfl fun k _ => ?_
    show Ideal.div (m ⟨k.val, _⟩) _ * y ⟨k.val, _⟩ = _
    rw [Ideal.div_coe hpos.ne', hm, hy, mul_right_comm, mul_comm (ind _)]
  · intro k hk
    show Ideal.div (m k) _ * y k = 0
    rw [Ideal.div_coe hpos.ne', h0 k hk, zero_mul, zero_mul]

/-- The sum over 32 padded lanes, each valid lane weighing 1/26, is the mean of the 26 rows. -/
theorem avg_of_lanes (m y : Fin 32 → EReal) (ns : Fin 26 → Fin 1024 → EReal) (d : Fin 1024)
    (hm : ∀ k : Fin 26, m ⟨k.val, by omega⟩ = 1) (h0 : ∀ k : Fin 32, 26 ≤ k.val → m k = 0)
    (hy : ∀ k : Fin 26, y ⟨k.val, by omega⟩ = ns k d) :
    ∑ k, m k * (((26 : ℝ)⁻¹ : ℝ) : EReal) * y k = avg ns d := by
  unfold avg
  rw [ofBits_26, Ideal.div_coe (by norm_num), ← sum_mul_coe _ _ _ (by norm_num)]
  rw [sum32 (fun k => m k * (((26 : ℝ)⁻¹ : ℝ) : EReal) * y k)]
  · refine Finset.sum_congr rfl fun k _ => ?_
    show m ⟨k.val, _⟩ * _ * y ⟨k.val, _⟩ = _
    rw [hm, hy, one_mul, mul_comm, one_div]
  · intro k hk
    show m k * _ * y k = 0
    rw [h0 k hk, zero_mul, zero_mul]

/-- The greatest of 128 lanes of which only the first three count. -/
theorem top_of_lanes (v : Fin 128 → EReal) (g : Fin 3 → EReal) (h : ∀ k : Fin 3, v ⟨k.val, by omega⟩ = g k) :
    Finset.univ.fold max ⊥ (fun x : Fin 128 => if x.val < 3 then v x else ⊥) = top g := by
  unfold top
  show Finset.univ.sup _ = Finset.univ.sup g
  refine le_antisymm (Finset.sup_le fun x _ => ?_) (Finset.sup_le fun x _ => ?_)
  · show (if x.val < 3 then v x else ⊥) ≤ _
    split
    · next hx => exact (h ⟨x.val, hx⟩).le.trans (Finset.le_sup (f := g) (Finset.mem_univ _))
    · exact bot_le
  · refine le_trans ?_ (Finset.le_sup (f := fun x : Fin 128 => if x.val < 3 then v x else ⊥)
      (Finset.mem_univ (⟨x.val, by omega⟩ : Fin 128)))
    show g x ≤ if x.val < 3 then v ⟨x.val, _⟩ else ⊥
    rw [if_pos x.isLt, h]

/-- A sum over 128 lanes of which only the first three count. -/
theorem sum128 (f : Fin 128 → EReal) (g : Fin 3 → EReal) (h : ∀ k : Fin 3, f ⟨k.val, by omega⟩ = g k) :
    ∑ x : Fin 128, (if x.val < 3 then f x else 0) = ∑ k, g k := by
  refine (Fin.sum_univ_add (a := 3) (b := 125) (fun x : Fin 128 => if x.val < 3 then f x else 0)).trans ?_
  rw [Finset.sum_eq_zero (s := Finset.univ)
    (f := fun i : Fin 125 => (fun x : Fin 128 => if x.val < 3 then f x else 0) (Fin.natAdd 3 i))
    (fun i _ => if_neg (by show ¬ 3 + i.val < 3; omega)), add_zero]
  refine Finset.sum_congr rfl fun k _ => ?_
  show (if k.val < 3 then f ⟨k.val, _⟩ else 0) = _
  rw [if_pos k.isLt, h]

end Cert.Lattice

end
-- ==== Proof.Pieces.lean ====
/- What the three cases of the kernel's body leave in the carried scratch and in the two result blocks, read back from the
   stores their runs found, as payloads of the blocks they load. -/
module

public import proofs.«01_k».proof.Proof.KernelIdealFrame
public import Idealize.ShloMosaic.Lib.WritesUnit
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Hand

variable {F : FTy → Type} [FloatOps F] [Named F]

/-- Row `r` of the scratch, as a one-row block. -/
def row (X : Vec F S8x1024 .f32) (r : Fin 8) : Vec F S1x1024 .f32 := fun y => X (ix2 r (y 1))

theorem hz : (![0, 0] : Fin 2 → Nat) = fun _ => 0 := funext fun a => by fin_cases a <;> rfl

theorem off1_eq : ∀ i : grid0.Coords, k0_off1 i = ![0, 0] := by decide +kernel

/-- A load of one whole row of the scratch reads that row. -/
theorem ld_row (X : Vec F S8x1024 .f32) (r : Fin 8) {off : Fin 2 → Nat} (h : off = ![r.val, 0])
    (inb : ∀ a, off a + S1x1024.size a ≤ S8x1024.size a) :
    View.ld (Val := Elt F) (e' := .f32) X (Rect.unit (s := S8x1024) off S1x1024.size inb) = row X r := by
  subst h
  funext y
  refine congrArg X (funext fun a => Fin.ext ?_)
  match a with
  | ⟨0, _⟩ => show r.val + 1 * (y 0).val = r.val; have : (y 0).val < 1 := (y 0).isLt; omega
  | ⟨1, _⟩ => show 0 + 1 * (y 1).val = (y 1).val; omega

theorem ld_1x1024 (X : Vec F S1x1024 .f32) (inb : ∀ a, (![0, 0] : Fin 2 → Nat) a + (![1, 1024] : Fin 2 → Nat) a ≤ S1x1024.size a) :
    View.ld (Val := Elt F) (e' := .f32) X (Rect.unit (s := S1x1024) ![0, 0] ![1, 1024] inb) = X :=
  View.ld_unit_zero (S := S1x1024) hz inb X
theorem ld_32x1024 (X : Vec F S32x1024 .f32) (inb : ∀ a, (![0, 0] : Fin 2 → Nat) a + (![32, 1024] : Fin 2 → Nat) a ≤ S32x1024.size a) :
    View.ld (Val := Elt F) (e' := .f32) X (Rect.unit (s := S32x1024) ![0, 0] ![32, 1024] inb) = X :=
  View.ld_unit_zero (S := S32x1024) hz inb X
theorem ld_1x32 (X : Vec F S1x32 .i32) (inb : ∀ a, (![0, 0] : Fin 2 → Nat) a + (![1, 32] : Fin 2 → Nat) a ≤ S1x32.size a) :
    View.ld (Val := Elt F) (e' := .i32) X (Rect.unit (s := S1x32) ![0, 0] ![1, 32] inb) = X :=
  View.ld_unit_zero (S := S1x32) hz inb X
theorem ld_1x1 (X : Vec F S1x1 .i32) (inb : ∀ a, (![0, 0] : Fin 2 → Nat) a + (![1, 1] : Fin 2 → Nat) a ≤ S1x1.size a) :
    View.ld (Val := Elt F) (e' := .i32) X (Rect.unit (s := S1x1) ![0, 0] ![1, 1] inb) = X :=
  View.ld_unit_zero (S := S1x1) hz inb X
theorem ld_1024x1024 (X : Vec F S1024x1024 .f32) (inb : ∀ a, (![0, 0] : Fin 2 → Nat) a + (![1024, 1024] : Fin 2 → Nat) a ≤ S1024x1024.size a) :
    View.ld (Val := Elt F) (e' := .f32) X (Rect.unit (s := S1024x1024) ![0, 0] ![1024, 1024] inb) = X :=
  View.ld_unit_zero (S := S1024x1024) hz inb X
theorem ld_2048x3 (X : Vec F S2048x3 .f32) (inb : ∀ a, (![0, 0] : Fin 2 → Nat) a + (![2048, 3] : Fin 2 → Nat) a ≤ S2048x3.size a) :
    View.ld (Val := Elt F) (e' := .f32) X (Rect.unit (s := S2048x3) ![0, 0] ![2048, 3] inb) = X :=
  View.ld_unit_zero (S := S2048x3) hz inb X

theorem ld_1x128 (X : Vec F S1x128 .f32) (inb : ∀ a, (![0, 0] : Fin 2 → Nat) a + (![1, 128] : Fin 2 → Nat) a ≤ S1x128.size a) :
    View.ld (Val := Elt F) (e' := .f32) X (Rect.unit (s := S1x128) ![0, 0] ![1, 128] inb) = X :=
  View.ld_unit_zero (S := S1x128) hz inb X
theorem ld_off1 (i : grid0.Coords) (X : Vec F S1x1024 .f32) (inb : ∀ a, k0_off1 i a + (![1, 1024] : Fin 2 → Nat) a ≤ S1x1024.size a) :
    View.ld (Val := Elt F) (e' := .f32) X (Rect.unit (s := S1x1024) (k0_off1 i) ![1, 1024] inb) = X :=
  View.ld_unit_zero (S := S1x1024) ((off1_eq i).trans hz) inb X
theorem lt_one (y : S1x1024.Idx) : (y 0).val < 1 := (y 0).isLt

/-- A store that holds the index is what is read there. -/
theorem hit {off off' size : Fin 2 → ℕ} (inb : ∀ a, off a + size a ≤ S8x1024.size a)
    (w : (Rect.unit (s := S8x1024) off size inb).shape.Idx → Elt F .f32) (L : List (View.Piece (Elt F) S8x1024 .f32))
    (y : S8x1024.Idx) (x : (Rect.unit (s := S8x1024) off size inb).shape.Idx) (heq : off = off')
    (h0 : (y 0).val = off' 0 + (x (0 : Fin 2)).val) (h1 : (y 1).val = off' 1 + (x (1 : Fin 2)).val) :
    View.canon ((⟨Rect.unit (s := S8x1024) off size inb, w⟩ : View.Piece (Elt F) S8x1024 .f32) :: L) y = w x := by
  rw [← View.read_writes_junk_apply_eq_canon VS0_0]
  exact View.read_writes_cons_unit_of_mem _ _ inb w L y x heq (Fin.forall_fin_two.mpr ⟨h0, h1⟩)

/-- A store that misses the index on an axis is read past. -/
theorem miss {off off' size : Fin 2 → ℕ} (inb : ∀ a, off a + size a ≤ S8x1024.size a)
    (w : (Rect.unit (s := S8x1024) off size inb).shape.Idx → Elt F .f32) (L : List (View.Piece (Elt F) S8x1024 .f32))
    (y : S8x1024.Idx) (heq : off = off') (a : Fin 2) (ha : (y a).val < off' a ∨ off' a + size a ≤ (y a).val) :
    View.canon ((⟨Rect.unit (s := S8x1024) off size inb, w⟩ : View.Piece (Elt F) S8x1024 .f32) :: L) y
      = View.canon L y := by
  rw [← View.read_writes_junk_apply_eq_canon VS0_0, ← View.read_writes_junk_apply_eq_canon VS0_0]
  exact View.read_writes_cons_unit_of_not_mem _ _ inb w L y heq a ha

/-- The far mask, its count, and the normalised near and middle masks of the 32 lanes, of the neighbour and cell numbers. -/
abbrev farA (x2 : Vec F S1x32 .i32) (x3 : Vec F S1x1 .i32) : FVec F S1x32 .f32 :=
  k0_pay28 (k0_pay17 x3) (k0_pay18 x2) (k0_pay20 x2) (k0_pay21 x2) (k0_pay22 x3) (k0_pay23 x3) (k0_pay24 x3) k0_pay25
abbrev cntA (x2 : Vec F S1x32 .i32) (x3 : Vec F S1x1 .i32) : FVec F S1x1 .f32 :=
  k0_pay29 (k0_pay17 x3) (k0_pay18 x2) (k0_pay20 x2) (k0_pay21 x2) (k0_pay22 x3) (k0_pay23 x3) (k0_pay24 x3) k0_pay25
abbrev nearA (x2 : Vec F S1x32 .i32) (x3 : Vec F S1x1 .i32) : FVec F S1x32 .f32 :=
  k0_pay30 (k0_pay17 x3) (k0_pay18 x2) (k0_pay20 x2) (k0_pay21 x2) (k0_pay22 x3) (k0_pay23 x3) (k0_pay24 x3) k0_pay25
abbrev midA (x2 : Vec F S1x32 .i32) (x3 : Vec F S1x1 .i32) : FVec F S1x32 .f32 :=
  k0_pay31 (k0_pay17 x3) (k0_pay18 x2) (k0_pay20 x2) (k0_pay21 x2) (k0_pay22 x3) (k0_pay23 x3) (k0_pay24 x3) k0_pay25

variable (c : Dev nD) (i : grid0.Coords) (arg1 : Memref sig .tc .vmem S1x1024 .f32) (harg1 : arg1.IsWhole) (arg2 : Memref sig .tc .vmem S32x1024 .f32) (harg2 : arg2.IsWhole) (arg3 : Memref sig .tc .vmem S1x32 .i32) (harg3 : arg3.IsWhole) (arg4 : Memref sig .tc .vmem S1x1 .i32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S2048x3 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x128 .f32) (harg14 : arg14.IsWhole) (arg15 : Memref sig .tc .vmem S1x1024 .f32) (harg15 : arg15.IsWhole) (arg16 : Memref sig .tc .vmem S1x128 .f32) (harg16 : arg16.IsWhole) (arg17 : Memref sig .tc .vmem S8x1024 .f32) (harg17 : arg17.IsWhole)
variable (x0 : Vec F S1x1024 .f32) (x1 : Vec F S32x1024 .f32) (x2 : Vec F S1x32 .i32) (x3 : Vec F S1x1 .i32) (x4 : Vec F S1024x1024 .f32) (x5 : Vec F S1024x1024 .f32) (x6 : Vec F S1024x1024 .f32) (x7 : Vec F S1024x1024 .f32) (x8 : Vec F S2048x3 .f32) (x9 : Vec F S1x1024 .f32) (x10 : Vec F S1x1024 .f32) (x11 : Vec F S1x1024 .f32) (x12 : Vec F S1x1024 .f32) (x13 : Vec F S1x128 .f32) (xs0 : Vec F S8x1024 .f32)

/-- The second grid point adds the mean's half of the first layer to row 0. -/
theorem B_row0 (hc0 : ¬cond0_0 i) (hc1 : ¬cond0_1 i) (hc2 : cond0_2 i) (hc3 : ¬cond0_3 i) (j : Fin 1024) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0 (ix2 0 j) = k0_pay10 (row xs0 0) (row xs0 5) x5 (ix2 0 j) := by
  unfold sout0_B_0 kernelRun0_B
  dsimp only
  refine (View.read_writes_cons_unit_of_not_mem _ _ _ _ _ _ rfl (0 : Fin 2) (.inl (by decide : (0 : ℕ) < 2))).trans ?_
  refine (View.read_writes_cons_unit_of_not_mem _ _ _ _ _ _ rfl (0 : Fin 2) (.inl (by decide : (0 : ℕ) < 1))).trans ?_
  refine (View.read_writes_cons_unit_of_mem _ _ _ _ _ _ (ix2 0 j) rfl (fun a => match a with
    | ⟨0, _⟩ => rfl
    | ⟨1, _⟩ => (Nat.zero_add _).symm)).trans ?_
  sl_unfold_words
  simp only [View.readAt_eq_ld, harg17.read_unread, harg6.read_unread]
  refine congrFun (congr (congr (congrArg _ (ld_row xs0 0 rfl _)) (ld_row xs0 5 (off2_eq i) _)) (ld_1024x1024 x5 _)) _

theorem B_row1 (hc0 : ¬cond0_0 i) (hc1 : ¬cond0_1 i) (hc2 : cond0_2 i) (hc3 : ¬cond0_3 i) (j : Fin 1024) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0 (ix2 1 j) = k0_pay11 (row xs0 1) (row xs0 6) x4 (ix2 0 j) := by
  unfold sout0_B_0 kernelRun0_B
  dsimp only
  refine (View.read_writes_cons_unit_of_not_mem _ _ _ _ _ _ rfl (0 : Fin 2) (.inl (by decide : (1 : ℕ) < 2))).trans ?_
  refine (View.read_writes_cons_unit_of_mem _ _ _ _ _ _ (ix2 0 j) rfl (fun a => match a with
    | ⟨0, _⟩ => rfl
    | ⟨1, _⟩ => (Nat.zero_add _).symm)).trans ?_
  sl_unfold_words
  simp only [View.readAt_eq_ld, harg17.read_unread, harg5.read_unread]
  refine congrFun (congr (congr (congrArg _ (ld_row xs0 1 rfl _)) (ld_row xs0 6 (off3_eq i) _)) (ld_1024x1024 x4 _)) _

theorem B_row2 (hc0 : ¬cond0_0 i) (hc1 : ¬cond0_1 i) (hc2 : cond0_2 i) (hc3 : ¬cond0_3 i) (j : Fin 1024) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0 (ix2 2 j) = k0_pay12 (row xs0 2) (row xs0 7) x6 (ix2 0 j) := by
  unfold sout0_B_0 kernelRun0_B
  dsimp only
  refine (View.read_writes_cons_unit_of_mem _ _ _ _ _ _ (ix2 0 j) rfl (fun a => match a with
    | ⟨0, _⟩ => rfl
    | ⟨1, _⟩ => (Nat.zero_add _).symm)).trans ?_
  sl_unfold_words
  simp only [View.readAt_eq_ld, harg17.read_unread, harg7.read_unread]
  refine congrFun (congr (congr (congrArg _ (ld_row xs0 2 rfl _)) (ld_row xs0 7 (off4_eq i) _)) (ld_1024x1024 x6 _)) _

/-- It leaves row 4, the gate's, as it was. -/
theorem B_row4 (hc0 : ¬cond0_0 i) (hc1 : ¬cond0_1 i) (hc2 : cond0_2 i) (hc3 : ¬cond0_3 i) (j : Fin 1024) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0 (ix2 4 j) = xs0 (ix2 4 j) := by
  unfold sout0_B_0 kernelRun0_B
  dsimp only
  refine (View.read_writes_cons_unit_of_not_mem _ _ _ _ _ _ rfl (0 : Fin 2) (.inr (by decide : (2 + 1 : ℕ) ≤ 4))).trans ?_
  refine (View.read_writes_cons_unit_of_not_mem _ _ _ _ _ _ rfl (0 : Fin 2) (.inr (by decide : (1 + 1 : ℕ) ≤ 4))).trans ?_
  refine (View.read_writes_cons_unit_of_not_mem _ _ _ _ _ _ rfl (0 : Fin 2) (.inr (by decide : (0 + 1 : ℕ) ≤ 4))).trans ?_
  rw [View.writes_nil, harg17.read_unread]

/-! ### The first grid point -/

theorem canonA (hc0 : cond0_0 i) (hc1 : cond0_1 i) (hc2 : ¬cond0_2 i) (hc3 : ¬cond0_3 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13
      = View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13).2.2.1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13)]

/-- The far mean stands in row 7, -/
theorem A_row7 (hc0 : cond0_0 i) (hc1 : cond0_1 i) (hc2 : ¬cond0_2 i) (hc3 : ¬cond0_3 i) (j : Fin 1024) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 (ix2 7 j)
      = k0_pay4 k0_pay27 (farA x2 x3) (cntA x2 x3) (nearA x2 x3) (midA x2 x3) x1 (ix2 0 j) := by
  rw [canonA]
  unfold kernelRun0_A
  dsimp only
  sl_unfold_words
  simp only [View.readAt_eq_ld, harg1.read_unread, harg2.read_unread, harg3.read_unread, harg4.read_unread, harg5.read_unread,
    harg6.read_unread, harg7.read_unread, harg9.read_unread, ld_1x1024, ld_32x1024, ld_1x32, ld_1x1, ld_1024x1024, ld_2048x3]
  refine (miss _ _ _ _ rfl 0 (.inr (by decide : (2 + 1 : ℕ) ≤ 7))).trans ?_
  refine (miss _ _ _ _ rfl 0 (.inr (by decide : (1 + 1 : ℕ) ≤ 7))).trans ?_
  refine (miss _ _ _ _ rfl 0 (.inr (by decide : (0 + 1 : ℕ) ≤ 7))).trans ?_
  refine (miss _ _ _ _ rfl 0 (.inr (by decide : (4 + 1 : ℕ) ≤ 7))).trans ?_
  exact hit _ _ _ _ (ix2 0 j) rfl rfl (Nat.zero_add _).symm

/-- the middle mean in row 6, -/
theorem A_row6 (hc0 : cond0_0 i) (hc1 : cond0_1 i) (hc2 : ¬cond0_2 i) (hc3 : ¬cond0_3 i) (j : Fin 1024) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 (ix2 6 j)
      = k0_pay3 k0_pay27 (farA x2 x3) (cntA x2 x3) (nearA x2 x3) (midA x2 x3) x1 (ix2 0 j) := by
  rw [canonA]
  unfold kernelRun0_A
  dsimp only
  sl_unfold_words
  simp only [View.readAt_eq_ld, harg1.read_unread, harg2.read_unread, harg3.read_unread, harg4.read_unread, harg5.read_unread,
    harg6.read_unread, harg7.read_unread, harg9.read_unread, ld_1x1024, ld_32x1024, ld_1x32, ld_1x1, ld_1024x1024, ld_2048x3]
  refine (miss _ _ _ _ rfl 0 (.inr (by decide : (2 + 1 : ℕ) ≤ 6))).trans ?_
  refine (miss _ _ _ _ rfl 0 (.inr (by decide : (1 + 1 : ℕ) ≤ 6))).trans ?_
  refine (miss _ _ _ _ rfl 0 (.inr (by decide : (0 + 1 : ℕ) ≤ 6))).trans ?_
  refine (miss _ _ _ _ rfl 0 (.inr (by decide : (4 + 1 : ℕ) ≤ 6))).trans ?_
  refine (miss _ _ _ _ rfl 0 (.inl (by decide : (6 : ℕ) < 7))).trans ?_
  exact hit _ _ _ _ (ix2 0 j) rfl rfl (Nat.zero_add _).symm

/-- the near mean in row 5, -/
theorem A_row5 (hc0 : cond0_0 i) (hc1 : cond0_1 i) (hc2 : ¬cond0_2 i) (hc3 : ¬cond0_3 i) (j : Fin 1024) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 (ix2 5 j)
      = k0_pay2 k0_pay27 (farA x2 x3) (cntA x2 x3) (nearA x2 x3) (midA x2 x3) x1 (ix2 0 j) := by
  rw [canonA]
  unfold kernelRun0_A
  dsimp only
  sl_unfold_words
  simp only [View.readAt_eq_ld, harg1.read_unread, harg2.read_unread, harg3.read_unread, harg4.read_unread, harg5.read_unread,
    harg6.read_unread, harg7.read_unread, harg9.read_unread, ld_1x1024, ld_32x1024, ld_1x32, ld_1x1, ld_1024x1024, ld_2048x3]
  refine (miss _ _ _ _ rfl 0 (.inr (by decide : (2 + 1 : ℕ) ≤ 5))).trans ?_
  refine (miss _ _ _ _ rfl 0 (.inr (by decide : (1 + 1 : ℕ) ≤ 5))).trans ?_
  refine (miss _ _ _ _ rfl 0 (.inr (by decide : (0 + 1 : ℕ) ≤ 5))).trans ?_
  refine (miss _ _ _ _ rfl 0 (.inr (by decide : (4 + 1 : ℕ) ≤ 5))).trans ?_
  refine (miss _ _ _ _ rfl 0 (.inl (by decide : (5 : ℕ) < 7))).trans ?_
  refine (miss _ _ _ _ rfl 0 (.inl (by decide : (5 : ℕ) < 6))).trans ?_
  exact hit _ _ _ _ (ix2 0 j) rfl rfl (Nat.zero_add _).symm

/-- The gate's scores stand in row 4's first three lanes, -/
theorem A_row4a (hc0 : cond0_0 i) (hc1 : cond0_1 i) (hc2 : ¬cond0_2 i) (hc3 : ¬cond0_3 i) (j : Fin 1024) (h : j.val < 3) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 (ix2 4 j)
      = k0_pay5 k0_pay27 (farA x2 x3) (cntA x2 x3) (nearA x2 x3) (midA x2 x3) x1 x0 x8 (ix2 0 ⟨j.val, h⟩) := by
  rw [canonA]
  unfold kernelRun0_A
  dsimp only
  sl_unfold_words
  simp only [View.readAt_eq_ld, harg1.read_unread, harg2.read_unread, harg3.read_unread, harg4.read_unread, harg5.read_unread,
    harg6.read_unread, harg7.read_unread, harg9.read_unread, ld_1x1024, ld_32x1024, ld_1x32, ld_1x1, ld_1024x1024, ld_2048x3]
  refine (miss _ _ _ _ rfl 0 (.inr (by decide : (2 + 1 : ℕ) ≤ 4))).trans ?_
  refine (miss _ _ _ _ rfl 0 (.inr (by decide : (1 + 1 : ℕ) ≤ 4))).trans ?_
  refine (miss _ _ _ _ rfl 0 (.inr (by decide : (0 + 1 : ℕ) ≤ 4))).trans ?_
  exact hit _ _ _ _ (ix2 0 ⟨j.val, h⟩) rfl rfl (Nat.zero_add _).symm

/-- zeros in its others. -/
theorem A_row4b (hc0 : cond0_0 i) (hc1 : cond0_1 i) (hc2 : ¬cond0_2 i) (hc3 : ¬cond0_3 i) (j : Fin 1024) (h : 3 ≤ j.val) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 (ix2 4 j)
      = k0_pay15 (ix2 4 j) := by
  rw [canonA]
  unfold kernelRun0_A
  dsimp only
  sl_unfold_words
  simp only [View.readAt_eq_ld, harg1.read_unread, harg2.read_unread, harg3.read_unread, harg4.read_unread, harg5.read_unread,
    harg6.read_unread, harg7.read_unread, harg9.read_unread, ld_1x1024, ld_32x1024, ld_1x32, ld_1x1, ld_1024x1024, ld_2048x3]
  refine (miss _ _ _ _ rfl 0 (.inr (by decide : (2 + 1 : ℕ) ≤ 4))).trans ?_
  refine (miss _ _ _ _ rfl 0 (.inr (by decide : (1 + 1 : ℕ) ≤ 4))).trans ?_
  refine (miss _ _ _ _ rfl 0 (.inr (by decide : (0 + 1 : ℕ) ≤ 4))).trans ?_
  refine (miss _ _ _ _ rfl 1 (.inr (show 0 + 3 ≤ j.val by omega))).trans ?_
  refine (miss _ _ _ _ rfl 0 (.inl (by decide : (4 : ℕ) < 7))).trans ?_
  refine (miss _ _ _ _ rfl 0 (.inl (by decide : (4 : ℕ) < 6))).trans ?_
  refine (miss _ _ _ _ rfl 0 (.inl (by decide : (4 : ℕ) < 5))).trans ?_
  exact hit _ _ _ _ (ix2 4 j) rfl (Nat.zero_add _).symm (Nat.zero_add _).symm

/-- Row 2 starts from zeros plus the cell's half of a first layer. -/
theorem A_row2 (hc0 : cond0_0 i) (hc1 : cond0_1 i) (hc2 : ¬cond0_2 i) (hc3 : ¬cond0_3 i) (j : Fin 1024) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 (ix2 2 j)
      = k0_pay9 x0 (row k0_pay15 2) x6 (ix2 0 j) := by
  rw [canonA]
  unfold kernelRun0_A
  dsimp only
  sl_unfold_words
  simp only [View.readAt_eq_ld, harg1.read_unread, harg2.read_unread, harg3.read_unread, harg4.read_unread, harg5.read_unread,
    harg6.read_unread, harg7.read_unread, harg9.read_unread, ld_1x1024, ld_32x1024, ld_1x32, ld_1x1, ld_1024x1024, ld_2048x3]
  refine (hit _ _ _ _ (ix2 0 j) rfl rfl (Nat.zero_add _).symm).trans ?_
  refine congrFun (congrFun (congr (congrArg _ (ld_off1 i x0 _)) ?_) _) _
  rw [View.readCov_eq_canon']
  refine funext fun y => ?_
  have hy := lt_one y
  refine (miss _ _ _ _ rfl 0 (.inr (show 1 + 1 ≤ 2 + 1 * (y 0).val by omega))).trans ?_
  refine (miss _ _ _ _ rfl 0 (.inr (show 0 + 1 ≤ 2 + 1 * (y 0).val by omega))).trans ?_
  refine (miss _ _ _ _ rfl 0 (.inl (show 2 + 1 * (y 0).val < 4 by omega))).trans ?_
  refine (miss _ _ _ _ rfl 0 (.inl (show 2 + 1 * (y 0).val < 7 by omega))).trans ?_
  refine (miss _ _ _ _ rfl 0 (.inl (show 2 + 1 * (y 0).val < 6 by omega))).trans ?_
  refine (miss _ _ _ _ rfl 0 (.inl (show 2 + 1 * (y 0).val < 5 by omega))).trans ?_
  exact hit _ _ _ _ (ix2 2 (y 1)) rfl (show 2 + 1 * (y 0).val = 0 + 2 by omega) (show 0 + 1 * (y 1).val = 0 + (y 1).val by omega)

/-- Row 1 starts from zeros plus the cell's half of a first layer. -/
theorem A_row1 (hc0 : cond0_0 i) (hc1 : cond0_1 i) (hc2 : ¬cond0_2 i) (hc3 : ¬cond0_3 i) (j : Fin 1024) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 (ix2 1 j)
      = k0_pay8 x0 (row k0_pay15 1) x4 (ix2 0 j) := by
  rw [canonA]
  unfold kernelRun0_A
  dsimp only
  sl_unfold_words
  simp only [View.readAt_eq_ld, harg1.read_unread, harg2.read_unread, harg3.read_unread, harg4.read_unread, harg5.read_unread,
    harg6.read_unread, harg7.read_unread, harg9.read_unread, ld_1x1024, ld_32x1024, ld_1x32, ld_1x1, ld_1024x1024, ld_2048x3]
  refine (miss _ _ _ _ rfl 0 (.inl (by decide : (1 : ℕ) < 2))).trans ?_
  refine (hit _ _ _ _ (ix2 0 j) rfl rfl (Nat.zero_add _).symm).trans ?_
  refine congrFun (congrFun (congr (congrArg _ (ld_off1 i x0 _)) ?_) _) _
  rw [View.readCov_eq_canon']
  refine funext fun y => ?_
  have hy := lt_one y
  refine (miss _ _ _ _ rfl 0 (.inr (show 0 + 1 ≤ 1 + 1 * (y 0).val by omega))).trans ?_
  refine (miss _ _ _ _ rfl 0 (.inl (show 1 + 1 * (y 0).val < 4 by omega))).trans ?_
  refine (miss _ _ _ _ rfl 0 (.inl (show 1 + 1 * (y 0).val < 7 by omega))).trans ?_
  refine (miss _ _ _ _ rfl 0 (.inl (show 1 + 1 * (y 0).val < 6 by omega))).trans ?_
  refine (miss _ _ _ _ rfl 0 (.inl (show 1 + 1 * (y 0).val < 5 by omega))).trans ?_
  exact hit _ _ _ _ (ix2 1 (y 1)) rfl (show 1 + 1 * (y 0).val = 0 + 1 by omega) (show 0 + 1 * (y 1).val = 0 + (y 1).val by omega)

/-- Row 0 starts from zeros plus the cell's half of a first layer. -/
theorem A_row0 (hc0 : cond0_0 i) (hc1 : cond0_1 i) (hc2 : ¬cond0_2 i) (hc3 : ¬cond0_3 i) (j : Fin 1024) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 (ix2 0 j)
      = k0_pay7 x0 (row k0_pay15 0) x5 (ix2 0 j) := by
  rw [canonA]
  unfold kernelRun0_A
  dsimp only
  sl_unfold_words
  simp only [View.readAt_eq_ld, harg1.read_unread, harg2.read_unread, harg3.read_unread, harg4.read_unread, harg5.read_unread,
    harg6.read_unread, harg7.read_unread, harg9.read_unread, ld_1x1024, ld_32x1024, ld_1x32, ld_1x1, ld_1024x1024, ld_2048x3]
  refine (miss _ _ _ _ rfl 0 (.inl (by decide : (0 : ℕ) < 2))).trans ?_
  refine (miss _ _ _ _ rfl 0 (.inl (by decide : (0 : ℕ) < 1))).trans ?_
  refine (hit _ _ _ _ (ix2 0 j) rfl rfl (Nat.zero_add _).symm).trans ?_
  refine congrFun (congrFun (congr (congrArg _ (ld_off1 i x0 _)) ?_) _) _
  rw [View.readCov_eq_canon']
  refine funext fun y => ?_
  have hy := lt_one y
  refine (miss _ _ _ _ rfl 0 (.inl (show 0 + 1 * (y 0).val < 4 by omega))).trans ?_
  refine (miss _ _ _ _ rfl 0 (.inl (show 0 + 1 * (y 0).val < 7 by omega))).trans ?_
  refine (miss _ _ _ _ rfl 0 (.inl (show 0 + 1 * (y 0).val < 6 by omega))).trans ?_
  refine (miss _ _ _ _ rfl 0 (.inl (show 0 + 1 * (y 0).val < 5 by omega))).trans ?_
  exact hit _ _ _ _ (ix2 0 (y 1)) rfl (show 0 + 1 * (y 0).val = 0 + 0 by omega) (show 0 + 1 * (y 1).val = 0 + (y 1).val by omega)

/-! ### The last grid point -/

/-- The count of each mask's lanes, and the three experts of the last point. -/
abbrev nearC (x2 : Vec F S1x32 .i32) (x3 : Vec F S1x1 .i32) : FVec F S1x1 .f32 :=
  k0_pay44 (k0_pay36 x2) (k0_pay39 x3) (k0_pay40 x2 x3) (k0_pay41 x2 x3)
abbrev midC (x2 : Vec F S1x32 .i32) (x3 : Vec F S1x1 .i32) : FVec F S1x1 .f32 :=
  k0_pay45 (k0_pay36 x2) (k0_pay39 x3) (k0_pay40 x2 x3) (k0_pay41 x2 x3)
abbrev farC (x2 : Vec F S1x32 .i32) (x3 : Vec F S1x1 .i32) : FVec F S1x1 .f32 :=
  k0_pay46 (k0_pay36 x2) (k0_pay39 x3) (k0_pay40 x2 x3) (k0_pay41 x2 x3)

/-- The first 128 lanes of row 4 of the scratch. -/
def gateRow (X : Vec F S8x1024 .f32) : Vec F S1x128 .f32 := fun y => X (ix2 4 ⟨(y 1).val, lt_trans (y 1).isLt (by decide)⟩)

theorem ld_r0 (X : Vec F S8x1024 .f32) (inb : ∀ a, (![0, 0] : Fin 2 → Nat) a + (![1, 1024] : Fin 2 → Nat) a ≤ S8x1024.size a) :
    View.ld (Val := Elt F) (e' := .f32) X (Rect.unit (s := S8x1024) ![0, 0] ![1, 1024] inb) = row X 0 := ld_row X 0 rfl inb
theorem ld_r1 (X : Vec F S8x1024 .f32) (inb : ∀ a, (![1, 0] : Fin 2 → Nat) a + (![1, 1024] : Fin 2 → Nat) a ≤ S8x1024.size a) :
    View.ld (Val := Elt F) (e' := .f32) X (Rect.unit (s := S8x1024) ![1, 0] ![1, 1024] inb) = row X 1 := ld_row X 1 rfl inb
theorem ld_r2 (X : Vec F S8x1024 .f32) (inb : ∀ a, (![2, 0] : Fin 2 → Nat) a + (![1, 1024] : Fin 2 → Nat) a ≤ S8x1024.size a) :
    View.ld (Val := Elt F) (e' := .f32) X (Rect.unit (s := S8x1024) ![2, 0] ![1, 1024] inb) = row X 2 := ld_row X 2 rfl inb
theorem ld_gate (X : Vec F S8x1024 .f32) (inb : ∀ a, (![4, 0] : Fin 2 → Nat) a + (![1, 128] : Fin 2 → Nat) a ≤ S8x1024.size a) :
    View.ld (Val := Elt F) (e' := .f32) X (Rect.unit (s := S8x1024) ![4, 0] ![1, 128] inb) = gateRow X := by
  funext y
  refine congrArg X (funext fun a => Fin.ext ?_)
  match a with
  | ⟨0, _⟩ => show 4 + 1 * (y 0).val = 4; have : (y 0).val < 1 := (y 0).isLt; omega
  | ⟨1, _⟩ => show 0 + 1 * (y 1).val = (y 1).val; omega

/-- The state stored by the last point. -/
theorem C_out14 (hc0 : ¬cond0_0 i) (hc1 : ¬cond0_1 i) (hc2 : ¬cond0_2 i) (hc3 : cond0_3 i) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0
      = k0_pay14 (k0_pay49 (nearC x2 x3) (row xs0 0) x9)
          (k0_pay50 (midC x2 x3) (k0_pay47 x0) (k0_pay48 (row xs0 1) x10 x7) x11)
          (k0_pay51 (farC x2 x3) (row xs0 2) x12)
          (k0_pay52 (gateRow xs0) x13) (iota Kind.tc S1x128 32 [1] iota_S1x128_d1_w32) k0_pay53 := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread]
  simp only [ld_1x1024, ld_32x1024, ld_1x32, ld_1x1, ld_1024x1024, ld_2048x3, ld_1x128, ld_r0, ld_r1, ld_r2, ld_gate]

/-- The weights stored by the last point. -/
theorem C_out15 (hc0 : ¬cond0_0 i) (hc1 : ¬cond0_1 i) (hc2 : ¬cond0_2 i) (hc3 : cond0_3 i) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0
      = k0_pay13 (k0_pay52 (gateRow xs0) x13) (iota Kind.tc S1x128 32 [1] iota_S1x128_d1_w32) k0_pay53 := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread]
  simp only [ld_1x1024, ld_32x1024, ld_1x32, ld_1x1, ld_1024x1024, ld_2048x3, ld_1x128, ld_r0, ld_r1, ld_r2, ld_gate]

end Cert.KernelIdeal.Pieces
end
-- ==== Proof.KPay.lean ====
/- The kernel's payloads at an index over the extended reals, in the terms of `Spec`. -/
module

public import proofs.«01_k».proof.Proof.Spec
public import proofs.«01_k».proof.Proof.Pieces

@[expose] public section

set_option maxRecDepth 16384

noncomputable section

open Idealize.ShloMosaic Idealize.ShloMosaic.TcCoe Idealize.SL.Sem

namespace Cert.KernelIdeal.Pay

open Cert.KernelIdeal Cert.KernelIdeal.Gen Cert.KernelIdeal.Pieces Cert.Lattice

/-! ### Named constants -/

theorem r729 : (Named.named (F := Ideal) κ "r729" (φ := .f32) 984861703#32 : EReal) = (((729 : ℕ) : ℝ)⁻¹ : ℝ) := by
  rw [Nat.cast_ofNat]; exact IdealRules.named_const.ideal_named_scalar _ _ _ _ rfl
theorem r27 : (Named.named (F := Ideal) κ "r27" (φ := .f32) 1024963622#32 : EReal) = (((27 : ℕ) : ℝ)⁻¹ : ℝ) := by
  rw [Nat.cast_ofNat]; exact IdealRules.named_const.ideal_named_scalar _ _ _ _ rfl
theorem r26 : (Named.named (F := Ideal) κ "r26" (φ := .f32) 1025346009#32 : EReal) = ((26 : ℝ)⁻¹ : ℝ) :=
  IdealRules.named_const.ideal_named_scalar _ _ _ _ rfl

/-! ### Lattice coordinates -/

variable (x2 : Vec Ideal S1x32 .i32) (x3 : Vec Ideal S1x1 .i32) (k : Fin 32)

theorem quo_cy (v : ℤ) : v / 27 - 27 * (v / 729) = v / 27 % 27 := by omega
theorem quo_cz (v : ℤ) : v - 27 * (v / 27) = v % 27 := by omega

theorem pay16_at : k0_pay16 x2 (ix2 0 k) = zz (x2 (ix2 0 k)).toInt := by pointwise [k0_pay16]; rfl
theorem pay17_at : k0_pay17 x3 (ix2 0 0) = zz (x3 (ix2 0 0)).toInt := by pointwise [k0_pay17]; rfl
theorem pay18_at : k0_pay18 x2 (ix2 0 k) = zz (cx (x2 (ix2 0 k))) := by
  pointwise [k0_pay18]
  rw [pay16_at, ofBits_half, r729]
  exact liftFloor _ 729 (by norm_num)
theorem pay19_at : k0_pay19 x2 (ix2 0 k) = zz ((x2 (ix2 0 k)).toInt / 27) := by
  pointwise [k0_pay19]
  rw [pay16_at, ofBits_half, r27]
  exact liftFloor _ 27 (by norm_num)
theorem pay20_at : k0_pay20 x2 (ix2 0 k) = zz (cy (x2 (ix2 0 k))) := by
  pointwise [k0_pay20]
  rw [pay19_at, pay18_at, ofBits_27, zz_mul, zz_sub]
  exact congrArg zz (quo_cy _)
theorem pay21_at : k0_pay21 x2 (ix2 0 k) = zz (cz (x2 (ix2 0 k))) := by
  pointwise [k0_pay21]
  rw [pay19_at, pay16_at, ofBits_27, zz_mul, zz_sub]
  exact congrArg zz (quo_cz _)
theorem pay22_at : k0_pay22 x3 (ix2 0 0) = zz (cx (x3 (ix2 0 0))) := by
  pointwise [k0_pay22]
  rw [pay17_at, ofBits_half, r729]
  exact liftFloor _ 729 (by norm_num)
theorem pay23_at : k0_pay23 x3 (ix2 0 0) = zz ((x3 (ix2 0 0)).toInt / 27) := by
  pointwise [k0_pay23]
  rw [pay17_at, ofBits_half, r27]
  exact liftFloor _ 27 (by norm_num)
theorem pay24_at : k0_pay24 x3 (ix2 0 0) = zz (cy (x3 (ix2 0 0))) := by
  pointwise [k0_pay24]
  rw [pay23_at, pay22_at, ofBits_27, zz_mul, zz_sub]
  exact congrArg zz (quo_cy _)
theorem pay25_at : (k0_pay25 : FVec Ideal S1x1 .f32) (ix2 0 0) = zz 27 := by
  pointwise [k0_pay25]
  rw [ofBits_27]

theorem pay32_at : k0_pay32 x2 (ix2 0 k) = zz (x2 (ix2 0 k)).toInt := by pointwise [k0_pay32]; rfl
theorem pay33_at : k0_pay33 x3 (ix2 0 0) = zz (x3 (ix2 0 0)).toInt := by pointwise [k0_pay33]; rfl
theorem pay34_at : k0_pay34 x2 (ix2 0 k) = zz (cx (x2 (ix2 0 k))) := by
  pointwise [k0_pay34]
  rw [pay32_at, ofBits_half, r729]
  exact liftFloor _ 729 (by norm_num)
theorem pay35_at : k0_pay35 x2 (ix2 0 k) = zz ((x2 (ix2 0 k)).toInt / 27) := by
  pointwise [k0_pay35]
  rw [pay32_at, ofBits_half, r27]
  exact liftFloor _ 27 (by norm_num)
theorem pay36_at : k0_pay36 x2 (ix2 0 k) = zz (cz (x2 (ix2 0 k))) := by
  pointwise [k0_pay36]
  rw [pay35_at, pay32_at, ofBits_27, zz_mul, zz_sub]
  exact congrArg zz (quo_cz _)
theorem pay37_at : k0_pay37 x3 (ix2 0 0) = zz (cx (x3 (ix2 0 0))) := by
  pointwise [k0_pay37]
  rw [pay33_at, ofBits_half, r729]
  exact liftFloor _ 729 (by norm_num)
theorem pay38_at : k0_pay38 x3 (ix2 0 0) = zz ((x3 (ix2 0 0)).toInt / 27) := by
  pointwise [k0_pay38]
  rw [pay33_at, ofBits_half, r27]
  exact liftFloor _ 27 (by norm_num)
theorem pay39_at : k0_pay39 x3 (ix2 0 0) = zz (cz (x3 (ix2 0 0))) := by
  pointwise [k0_pay39]
  rw [pay38_at, pay33_at, ofBits_27, zz_mul, zz_sub]
  exact congrArg zz (quo_cz _)
theorem pay40_at : k0_pay40 x2 x3 (ix2 0 k)
    = zz ((cx (x2 (ix2 0 k)) - cx (x3 (ix2 0 0))) * (cx (x2 (ix2 0 k)) - cx (x3 (ix2 0 0)))) := by
  pointwise [k0_pay40]
  rw [pay34_at, pay37_at, zz_sub, zz_mul]
theorem pay41_at : k0_pay41 x2 x3 (ix2 0 k)
    = zz ((cy (x2 (ix2 0 k)) - cy (x3 (ix2 0 0))) * (cy (x2 (ix2 0 k)) - cy (x3 (ix2 0 0)))) := by
  pointwise [k0_pay41]
  rw [pay34_at, pay35_at, pay37_at, pay38_at, ofBits_27]
  simp only [zz_sub, zz_mul, cx, quo_cy]
  rfl

theorem valid_at : FloatOps.sitofp (F := Ideal) FTy.f32
    (BitVec.setWidth 32 (IntOp.cmpi CmpIPredicate.slt (BitVec.ofNat 32 k.val) 26#32)) = ind (k.val < 26) := by
  refine (sitofp_bool _).trans (ind_congr ?_)
  revert k
  decide

/-! ### Masks -/

theorem far_at : farA x2 x3 (ix2 0 k) = far (dist2 (x2 (ix2 0 k)) (x3 (ix2 0 0))) * ind (k.val < 26) := by
  pointwise [k0_pay28, k0_pay26, k0_pay27]
  simp only [pay17_at, pay18_at, pay20_at, pay21_at, pay22_at, pay23_at, pay24_at, pay25_at, valid_at, ofBits_20h, zz_sub, zz_mul,
    zz_add, sitofp_bool, lt_zz_20, decide_eq_true_eq, quo_cz]
  rfl

theorem cnt_at : cntA x2 x3 (ix2 0 0) = ∑ k, far (dist2 (x2 (ix2 0 k)) (x3 (ix2 0 0))) * ind (k.val < 26) := by
  pointwise [k0_pay29]
  exact Finset.sum_congr rfl fun k _ => far_at x2 x3 k

theorem near_at : nearA x2 x3 (ix2 0 k) = Ideal.div (near (dist2 (x2 (ix2 0 k)) (x3 (ix2 0 0))) * ind (k.val < 26))
    (max (∑ k : Fin 32, near (dist2 (x2 (ix2 0 k)) (x3 (ix2 0 0))) * ind (k.val < 26)) 1) := by
  pointwise [k0_pay30, k0_pay26, k0_pay27]
  simp only [pay17_at, pay18_at, pay20_at, pay21_at, pay22_at, pay23_at, pay24_at, pay25_at, valid_at, ofBits_3h, zz_sub, zz_mul,
    zz_add, sitofp_bool, zz_le_3, decide_eq_true_eq, quo_cz]
  rfl

theorem mid_at : midA x2 x3 (ix2 0 k) = Ideal.div (mid (dist2 (x2 (ix2 0 k)) (x3 (ix2 0 0))) * ind (k.val < 26))
    (max (∑ k : Fin 32, mid (dist2 (x2 (ix2 0 k)) (x3 (ix2 0 0))) * ind (k.val < 26)) 1) := by
  pointwise [k0_pay31, k0_pay26, k0_pay27]
  simp only [IntOp.andi, BitVec.ofBool_and_ofBool]
  simp only [pay17_at, pay18_at, pay20_at, pay21_at, pay22_at, pay23_at, pay24_at, pay25_at, valid_at, ofBits_3h, ofBits_20h, zz_sub,
    zz_mul, zz_add, sitofp_bool, lt_zz_3, zz_le_20, Bool.and_eq_true, decide_eq_true_eq, quo_cz]
  rfl

theorem nearC_at : nearC x2 x3 (ix2 0 0) = ∑ k : Fin 32, near (dist2 (x2 (ix2 0 k)) (x3 (ix2 0 0))) * ind (k.val < 26) := by
  pointwise [k0_pay44, k0_pay42, k0_pay43]
  simp only [pay36_at, pay39_at, pay40_at, pay41_at, valid_at, ofBits_3h, zz_sub, zz_mul, zz_add, sitofp_bool, zz_le_3,
    decide_eq_true_eq]
  rfl
theorem midC_at : midC x2 x3 (ix2 0 0) = ∑ k : Fin 32, mid (dist2 (x2 (ix2 0 k)) (x3 (ix2 0 0))) * ind (k.val < 26) := by
  pointwise [k0_pay45, k0_pay42, k0_pay43]
  simp only [IntOp.andi, BitVec.ofBool_and_ofBool]
  simp only [pay36_at, pay39_at, pay40_at, pay41_at, valid_at, ofBits_3h, ofBits_20h, zz_sub, zz_mul, zz_add, sitofp_bool, lt_zz_3,
    zz_le_20, Bool.and_eq_true, decide_eq_true_eq]
  rfl
theorem farC_at : farC x2 x3 (ix2 0 0) = ∑ k : Fin 32, far (dist2 (x2 (ix2 0 k)) (x3 (ix2 0 0))) * ind (k.val < 26) := by
  pointwise [k0_pay46, k0_pay42, k0_pay43]
  simp only [pay36_at, pay39_at, pay40_at, pay41_at, valid_at, ofBits_20h, zz_sub, zz_mul, zz_add, sitofp_bool, lt_zz_20,
    decide_eq_true_eq]
  rfl

/-! ### Layers -/

section Layers
variable (a b y z : Vec Ideal S1x1024 .f32) (W : Vec Ideal S1024x1024 .f32) (j : Fin 1024)

theorem pay7_at : k0_pay7 a z W (ix2 0 j) = z (ix2 0 j) + ∑ k : Fin 1024, a (ix2 0 k) * W (ix2 k j) := by pointwise [k0_pay7, k0_pay6]
theorem pay8_at : k0_pay8 a z W (ix2 0 j) = z (ix2 0 j) + ∑ k : Fin 1024, a (ix2 0 k) * W (ix2 k j) := by pointwise [k0_pay8, k0_pay6]
theorem pay9_at : k0_pay9 a z W (ix2 0 j) = z (ix2 0 j) + ∑ k : Fin 1024, a (ix2 0 k) * W (ix2 k j) := by pointwise [k0_pay9, k0_pay6]
theorem pay10_at : k0_pay10 z a W (ix2 0 j) = z (ix2 0 j) + ∑ k : Fin 1024, a (ix2 0 k) * W (ix2 k j) := by pointwise [k0_pay10]
theorem pay11_at : k0_pay11 z a W (ix2 0 j) = z (ix2 0 j) + ∑ k : Fin 1024, a (ix2 0 k) * W (ix2 k j) := by pointwise [k0_pay11]
theorem pay12_at : k0_pay12 z a W (ix2 0 j) = z (ix2 0 j) + ∑ k : Fin 1024, a (ix2 0 k) * W (ix2 k j) := by pointwise [k0_pay12]
theorem pay15_at (r : Fin 8) : (k0_pay15 : FVec Ideal S8x1024 .f32) (ix2 r j) = 0 := by pointwise [k0_pay15]
theorem pay47_at : k0_pay47 a (ix2 0 j) = a (ix2 0 j) := by pointwise [k0_pay47]
theorem pay48_at : k0_pay48 a b W (ix2 0 j) = ∑ k : Fin 1024, Ideal.tanh (a (ix2 0 k) + b (ix2 0 k)) * W (ix2 k j) := by pointwise [k0_pay48]
variable (n : FVec Ideal S1x1 .f32)
theorem pay49_at : k0_pay49 n a b (ix2 0 j) = if 0 < n (ix2 0 0) then Ideal.tanh (a (ix2 0 j) + b (ix2 0 j)) else 0 := by pointwise [k0_pay49]
theorem pay50_at : k0_pay50 n y a b (ix2 0 j) = if 0 < n (ix2 0 0) then Ideal.tanh (a (ix2 0 j) + b (ix2 0 j)) + y (ix2 0 j) else 0 := by pointwise [k0_pay50]
theorem pay51_at : k0_pay51 n a b (ix2 0 j) = if 0 < n (ix2 0 0) then Ideal.tanh (a (ix2 0 j) + b (ix2 0 j)) else 0 := by pointwise [k0_pay51]
theorem pay52_at (a b : Vec Ideal S1x128 .f32) (j : Fin 128) : k0_pay52 a b (ix2 0 j) = a (ix2 0 j) + b (ix2 0 j) := by pointwise [k0_pay52]

end Layers

end Cert.KernelIdeal.Pay

end
-- ==== Proof.KMeans.lean ====
/- The first grid point's masked means and gate scores, and the last one's softmax and weighted state, in the terms of `Spec`. -/
module

public import proofs.«01_k».proof.Proof.KPay

@[expose] public section

set_option maxRecDepth 16384

noncomputable section

open Idealize.ShloMosaic Idealize.ShloMosaic.TcCoe Idealize.SL.Sem

namespace Cert.KernelIdeal.Pay

open Cert.KernelIdeal Cert.KernelIdeal.Gen Cert.KernelIdeal.Pieces Cert.Lattice

theorem ind_lt (k : Fin 26) : ind ((⟨k.val, by omega⟩ : Fin 32).val < 26) = 1 := if_pos k.isLt
theorem ind_ge (k : Fin 32) (h : 26 ≤ k.val) : ind (k.val < 26) = 0 := if_neg (by omega)

theorem pay27_at (k : Fin 32) : (k0_pay27 : FVec Ideal S1x32 .f32) (ix2 0 k) = ind (k.val < 26) := by
  pointwise [k0_pay27]
  exact valid_at k

section Means
variable (x1 : Vec Ideal S32x1024 .f32) (x2 : Vec Ideal S1x32 .i32) (x3 : Vec Ideal S1x1 .i32)
variable (cell : BitVec 32) (nb : Fin 26 → BitVec 32) (ns : Fin 26 → Fin 1024 → EReal)
variable (hc : x3 (ix2 0 0) = cell) (hn : ∀ k : Fin 26, x2 (ix2 0 ⟨k.val, by omega⟩) = nb k)
variable (hs : ∀ (k : Fin 26) (d : Fin 1024), x1 (ix2 ⟨k.val, by omega⟩ d) = ns k d)
include hc hn hs

/-- Row 5: the mean of the near neighbours. -/
theorem near_mean (j : Fin 1024) :
    k0_pay2 k0_pay27 (farA x2 x3) (cntA x2 x3) (nearA x2 x3) (midA x2 x3) x1 (ix2 0 j)
      = mean (fun k => near (dist2 (nb k) cell)) ns j := by
  pointwise [k0_pay2, k0_pay1]
  simp only [near_at]
  refine mean_of_lanes (fun k => dist2 (nb k) cell ≤ 3) (fun k => near (dist2 (x2 (ix2 0 k)) (x3 (ix2 0 0))) * ind (k.val < 26))
    (fun k => x1 (ix2 k j)) _ ns j (fun k => ?_) (fun k h => ?_) (fun k => hs k j) rfl
  · show near (dist2 (x2 (ix2 0 ⟨k.val, _⟩)) _) * ind _ = _
    rw [ind_lt, mul_one, hn, hc]; rfl
  · show _ * ind _ = _
    rw [ind_ge k h, mul_zero]

/-- Row 6: the mean of the middle ones. -/
theorem mid_mean (j : Fin 1024) :
    k0_pay3 k0_pay27 (farA x2 x3) (cntA x2 x3) (nearA x2 x3) (midA x2 x3) x1 (ix2 0 j)
      = mean (fun k => mid (dist2 (nb k) cell)) ns j := by
  pointwise [k0_pay3, k0_pay1]
  simp only [mid_at]
  refine mean_of_lanes (fun k => 3 < dist2 (nb k) cell ∧ dist2 (nb k) cell ≤ 20)
    (fun k => mid (dist2 (x2 (ix2 0 k)) (x3 (ix2 0 0))) * ind (k.val < 26))
    (fun k => x1 (ix2 k j)) _ ns j (fun k => ?_) (fun k h => ?_) (fun k => hs k j) rfl
  · show mid (dist2 (x2 (ix2 0 ⟨k.val, _⟩)) _) * ind _ = _
    rw [ind_lt, mul_one, hn, hc]; rfl
  · show _ * ind _ = _
    rw [ind_ge k h, mul_zero]

/-- Row 7: the mean of the far ones. -/
theorem far_mean (j : Fin 1024) :
    k0_pay4 k0_pay27 (farA x2 x3) (cntA x2 x3) (nearA x2 x3) (midA x2 x3) x1 (ix2 0 j)
      = mean (fun k => far (dist2 (nb k) cell)) ns j := by
  pointwise [k0_pay4, k0_pay1]
  simp only [far_at, cnt_at]
  refine mean_of_lanes (fun k => 20 < dist2 (nb k) cell)
    (fun k => far (dist2 (x2 (ix2 0 k)) (x3 (ix2 0 0))) * ind (k.val < 26))
    (fun k => x1 (ix2 k j)) _ ns j (fun k => ?_) (fun k h => ?_) (fun k => hs k j) rfl
  · show far (dist2 (x2 (ix2 0 ⟨k.val, _⟩)) _) * ind _ = _
    rw [ind_lt, mul_one, hn, hc]; rfl
  · show _ * ind _ = _
    rw [ind_ge k h, mul_zero]

omit hc hn in
theorem avg_row (v101 v111 v115 : FVec Ideal S1x32 .f32) (v107 : FVec Ideal S1x1 .f32) (j : Fin 1024) :
    k0_pay1 k0_pay27 v101 v107 v111 v115 x1 (ix2 3 j) = avg ns j := by
  pointwise [k0_pay1]
  simp only [pay27_at, r26]
  refine avg_of_lanes (fun k => ind (k.val < 26)) (fun k => x1 (ix2 k j)) ns j (fun k => ind_lt k) (fun k h => ind_ge k h)
    (fun k => hs k j)

omit hc hn in
/-- Row 4: the gate's linear layer. -/
theorem gate_at (v101 v111 v115 : FVec Ideal S1x32 .f32) (v107 : FVec Ideal S1x1 .f32) (x0 : Vec Ideal S1x1024 .f32)
    (x8 : Vec Ideal S2048x3 .f32) (cs : Fin 1024 → EReal) (h0 : ∀ k, x0 (ix2 0 k) = cs k) (j : Fin 3) :
    k0_pay5 k0_pay27 v101 v107 v111 v115 x1 x0 x8 (ix2 0 j) = lin cs (avg ns) (fun k o => x8 (ix2 k o)) j := by
  pointwise [k0_pay5]
  simp only [avg_row x1 ns hs, h0]
  rfl

/-- The counts of the last point. -/
theorem nearC_eq : nearC x2 x3 (ix2 0 0) = ∑ k : Fin 26, near (dist2 (nb k) cell) := by
  rw [nearC_at, sum32 _ fun k h => by rw [ind_ge k h, mul_zero]]
  exact Finset.sum_congr rfl fun k _ => by rw [ind_lt, mul_one, hn, hc]
theorem midC_eq : midC x2 x3 (ix2 0 0) = ∑ k : Fin 26, mid (dist2 (nb k) cell) := by
  rw [midC_at, sum32 _ fun k h => by rw [ind_ge k h, mul_zero]]
  exact Finset.sum_congr rfl fun k _ => by rw [ind_lt, mul_one, hn, hc]
theorem farC_eq : farC x2 x3 (ix2 0 0) = ∑ k : Fin 26, far (dist2 (nb k) cell) := by
  rw [farC_at, sum32 _ fun k h => by rw [ind_ge k h, mul_zero]]
  exact Finset.sum_congr rfl fun k _ => by rw [ind_lt, mul_one, hn, hc]

end Means

theorem lane_lt {α : Type} (x : Fin 128) (a b : α) :
    Scalar.select (IntOp.cmpi CmpIPredicate.slt (BitVec.ofNat 32 x.val) 3#32) a b = if x.val < 3 then a else b := by
  have h : ((BitVec.ofNat 32 x.val).slt 3#32 = true) ↔ x.val < 3 := by revert x; decide
  refine (select_ofBool _ a b).trans ?_
  by_cases hx : x.val < 3
  · rw [if_pos hx, if_pos (h.2 hx)]
  · rw [if_neg hx, if_neg (mt h.1 hx)]

/-- The last point's softmax on the first three lanes. -/
theorem pay13_at (v : Vec Ideal S1x128 .f32) (g : Fin 3 → EReal) (h : ∀ k : Fin 3, v (ix2 0 ⟨k.val, by omega⟩) = g k) (j : Fin 3) :
    k0_pay13 (F := Ideal) v (iota Kind.tc S1x128 32 [1] iota_S1x128_d1_w32) k0_pay53 (ix2 0 ⟨j.val, by omega⟩) = soft g j := by
  pointwise [k0_pay13, k0_pay53]
  simp only [lane_lt, ofBits_bot]
  rw [top_of_lanes (fun x => v (ix2 0 x)) g h, sum128 _ (fun x => Ideal.exp (g x - top g)) (fun k => by rw [h])]
  rw [show Scalar.select (IntOp.cmpi CmpIPredicate.slt (BitVec.ofNat 32 j.val) 3#32) _ _ = _ from
    (lane_lt (⟨j.val, by omega⟩ : Fin 128) _ _).trans (if_pos j.isLt), h]
  rfl

/-- The last point's state: the three experts by their weights. -/
theorem pay14_at (a b c : Vec Ideal S1x1024 .f32) (v : Vec Ideal S1x128 .f32) (g : Fin 3 → EReal)
    (h : ∀ k : Fin 3, v (ix2 0 ⟨k.val, by omega⟩) = g k) (j : Fin 1024) :
    k0_pay14 (F := Ideal) a b c v (iota Kind.tc S1x128 32 [1] iota_S1x128_d1_w32) k0_pay53 (ix2 0 j)
      = soft g 0 * a (ix2 0 j) + soft g 1 * b (ix2 0 j) + soft g 2 * c (ix2 0 j) := by
  pointwise [k0_pay14]
  rw [← pay13_at v g h 0, ← pay13_at v g h 1, ← pay13_at v g h 2]
  rfl

end Cert.KernelIdeal.Pay

end
-- ==== Proof.KIn.lean ====
/- What each input window holds at a point, in terms of the launched arguments: the host lines before the region pad and
   reshape the arguments, and the three streamed matrices are read one half of their rows at a time. -/
module

public import proofs.«01_k».proof.Proof.Gen.KernelIdeal.Frame.Runs
public import Idealize.ShloMosaic.Lib.Pointwise
public import Idealize.ShloMosaic.Lib.StableHlo.RunRead

@[expose] public section

set_option maxRecDepth 16384

noncomputable section

namespace Cert.KernelIdeal.In

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD)

/-! ## The blocks, read off the arrays the region finds -/

/-- Window 0 always stands at its array's origin. -/
theorem at_0 : ∀ t : Fin cfg0.N, win0_0.index t (0 : Fin 2) = 0 ∧ win0_0.index t (1 : Fin 2) = 0 :=
  (by decide +kernel : ∀ t : Fin grid0.N, _)

/-- Window 0's block is its whole array at every point. -/
theorem blk_0 (t : Fin cfg0.N) (i : S1x1024.Idx) :
    (iblk m c 0 t : Vec F S1x1024 .f32) i = V m c main_v0 i := by
  obtain ⟨e0, e1⟩ := at_0 t
  unfold iblk
  refine congrArg (V m c main_v0) (funext fun a => Fin.ext ?_)
  match a with
  | ⟨0, _⟩ => show win0_0.index t (0 : Fin 2) * 1 + 1 * (i 0).val = (i 0).val; rw [e0]; omega
  | ⟨1, _⟩ => show win0_0.index t (1 : Fin 2) * 1024 + 1 * (i 1).val = (i 1).val; rw [e1]; omega

/-- Window 1 always stands at its array's origin. -/
theorem at_1 : ∀ t : Fin cfg0.N, win0_1.index t (0 : Fin 2) = 0 ∧ win0_1.index t (1 : Fin 2) = 0 :=
  (by decide +kernel : ∀ t : Fin grid0.N, _)

/-- Window 1's block is its whole array at every point. -/
theorem blk_1 (t : Fin cfg0.N) (i : S32x1024.Idx) :
    (iblk m c 1 t : Vec F S32x1024 .f32) i = V m c main_v1 i := by
  obtain ⟨e0, e1⟩ := at_1 t
  unfold iblk
  refine congrArg (V m c main_v1) (funext fun a => Fin.ext ?_)
  match a with
  | ⟨0, _⟩ => show win0_1.index t (0 : Fin 2) * 32 + 1 * (i 0).val = (i 0).val; rw [e0]; omega
  | ⟨1, _⟩ => show win0_1.index t (1 : Fin 2) * 1024 + 1 * (i 1).val = (i 1).val; rw [e1]; omega

/-- Window 2 always stands at its array's origin. -/
theorem at_2 : ∀ t : Fin cfg0.N, win0_2.index t (0 : Fin 2) = 0 ∧ win0_2.index t (1 : Fin 2) = 0 :=
  (by decide +kernel : ∀ t : Fin grid0.N, _)

/-- Window 2's block is its whole array at every point. -/
theorem blk_2 (t : Fin cfg0.N) (i : S1x32.Idx) :
    (iblk m c 2 t : Vec F S1x32 .i32) i = V m c main_v3 i := by
  obtain ⟨e0, e1⟩ := at_2 t
  unfold iblk
  refine congrArg (V m c main_v3) (funext fun a => Fin.ext ?_)
  match a with
  | ⟨0, _⟩ => show win0_2.index t (0 : Fin 2) * 1 + 1 * (i 0).val = (i 0).val; rw [e0]; omega
  | ⟨1, _⟩ => show win0_2.index t (1 : Fin 2) * 32 + 1 * (i 1).val = (i 1).val; rw [e1]; omega

/-- Window 3 always stands at its array's origin. -/
theorem at_3 : ∀ t : Fin cfg0.N, win0_3.index t (0 : Fin 2) = 0 ∧ win0_3.index t (1 : Fin 2) = 0 :=
  (by decide +kernel : ∀ t : Fin grid0.N, _)

/-- Window 3's block is its whole array at every point. -/
theorem blk_3 (t : Fin cfg0.N) (i : S1x1.Idx) :
    (iblk m c 3 t : Vec F S1x1 .i32) i = V m c main_v4 i := by
  obtain ⟨e0, e1⟩ := at_3 t
  unfold iblk
  refine congrArg (V m c main_v4) (funext fun a => Fin.ext ?_)
  match a with
  | ⟨0, _⟩ => show win0_3.index t (0 : Fin 2) * 1 + 1 * (i 0).val = (i 0).val; rw [e0]; omega
  | ⟨1, _⟩ => show win0_3.index t (1 : Fin 2) * 1 + 1 * (i 1).val = (i 1).val; rw [e1]; omega

/-- Window 7 always stands at its array's origin. -/
theorem at_7 : ∀ t : Fin cfg0.N, win0_7.index t (0 : Fin 2) = 0 ∧ win0_7.index t (1 : Fin 2) = 0 :=
  (by decide +kernel : ∀ t : Fin grid0.N, _)

/-- Window 7's block is its whole array at every point. -/
theorem blk_7 (t : Fin cfg0.N) (i : S1024x1024.Idx) :
    (iblk m c 7 t : Vec F S1024x1024 .f32) i = V m c main_arg8 i := by
  obtain ⟨e0, e1⟩ := at_7 t
  unfold iblk
  refine congrArg (V m c main_arg8) (funext fun a => Fin.ext ?_)
  match a with
  | ⟨0, _⟩ => show win0_7.index t (0 : Fin 2) * 1024 + 1 * (i 0).val = (i 0).val; rw [e0]; omega
  | ⟨1, _⟩ => show win0_7.index t (1 : Fin 2) * 1024 + 1 * (i 1).val = (i 1).val; rw [e1]; omega

/-- Window 8 always stands at its array's origin. -/
theorem at_8 : ∀ t : Fin cfg0.N, win0_8.index t (0 : Fin 2) = 0 ∧ win0_8.index t (1 : Fin 2) = 0 :=
  (by decide +kernel : ∀ t : Fin grid0.N, _)

/-- Window 8's block is its whole array at every point. -/
theorem blk_8 (t : Fin cfg0.N) (i : S2048x3.Idx) :
    (iblk m c 8 t : Vec F S2048x3 .f32) i = V m c main_arg12 i := by
  obtain ⟨e0, e1⟩ := at_8 t
  unfold iblk
  refine congrArg (V m c main_arg12) (funext fun a => Fin.ext ?_)
  match a with
  | ⟨0, _⟩ => show win0_8.index t (0 : Fin 2) * 2048 + 1 * (i 0).val = (i 0).val; rw [e0]; omega
  | ⟨1, _⟩ => show win0_8.index t (1 : Fin 2) * 3 + 1 * (i 1).val = (i 1).val; rw [e1]; omega

/-- Window 9 always stands at its array's origin. -/
theorem at_9 : ∀ t : Fin cfg0.N, win0_9.index t (0 : Fin 2) = 0 ∧ win0_9.index t (1 : Fin 2) = 0 :=
  (by decide +kernel : ∀ t : Fin grid0.N, _)

/-- Window 9's block is its whole array at every point. -/
theorem blk_9 (t : Fin cfg0.N) (i : S1x1024.Idx) :
    (iblk m c 9 t : Vec F S1x1024 .f32) i = V m c main_v7 i := by
  obtain ⟨e0, e1⟩ := at_9 t
  unfold iblk
  refine congrArg (V m c main_v7) (funext fun a => Fin.ext ?_)
  match a with
  | ⟨0, _⟩ => show win0_9.index t (0 : Fin 2) * 1 + 1 * (i 0).val = (i 0).val; rw [e0]; omega
  | ⟨1, _⟩ => show win0_9.index t (1 : Fin 2) * 1024 + 1 * (i 1).val = (i 1).val; rw [e1]; omega

/-- Window 10 always stands at its array's origin. -/
theorem at_10 : ∀ t : Fin cfg0.N, win0_10.index t (0 : Fin 2) = 0 ∧ win0_10.index t (1 : Fin 2) = 0 :=
  (by decide +kernel : ∀ t : Fin grid0.N, _)

/-- Window 10's block is its whole array at every point. -/
theorem blk_10 (t : Fin cfg0.N) (i : S1x1024.Idx) :
    (iblk m c 10 t : Vec F S1x1024 .f32) i = V m c main_v8 i := by
  obtain ⟨e0, e1⟩ := at_10 t
  unfold iblk
  refine congrArg (V m c main_v8) (funext fun a => Fin.ext ?_)
  match a with
  | ⟨0, _⟩ => show win0_10.index t (0 : Fin 2) * 1 + 1 * (i 0).val = (i 0).val; rw [e0]; omega
  | ⟨1, _⟩ => show win0_10.index t (1 : Fin 2) * 1024 + 1 * (i 1).val = (i 1).val; rw [e1]; omega

/-- Window 11 always stands at its array's origin. -/
theorem at_11 : ∀ t : Fin cfg0.N, win0_11.index t (0 : Fin 2) = 0 ∧ win0_11.index t (1 : Fin 2) = 0 :=
  (by decide +kernel : ∀ t : Fin grid0.N, _)

/-- Window 11's block is its whole array at every point. -/
theorem blk_11 (t : Fin cfg0.N) (i : S1x1024.Idx) :
    (iblk m c 11 t : Vec F S1x1024 .f32) i = V m c main_v9 i := by
  obtain ⟨e0, e1⟩ := at_11 t
  unfold iblk
  refine congrArg (V m c main_v9) (funext fun a => Fin.ext ?_)
  match a with
  | ⟨0, _⟩ => show win0_11.index t (0 : Fin 2) * 1 + 1 * (i 0).val = (i 0).val; rw [e0]; omega
  | ⟨1, _⟩ => show win0_11.index t (1 : Fin 2) * 1024 + 1 * (i 1).val = (i 1).val; rw [e1]; omega

/-- Window 12 always stands at its array's origin. -/
theorem at_12 : ∀ t : Fin cfg0.N, win0_12.index t (0 : Fin 2) = 0 ∧ win0_12.index t (1 : Fin 2) = 0 :=
  (by decide +kernel : ∀ t : Fin grid0.N, _)

/-- Window 12's block is its whole array at every point. -/
theorem blk_12 (t : Fin cfg0.N) (i : S1x1024.Idx) :
    (iblk m c 12 t : Vec F S1x1024 .f32) i = V m c main_v10 i := by
  obtain ⟨e0, e1⟩ := at_12 t
  unfold iblk
  refine congrArg (V m c main_v10) (funext fun a => Fin.ext ?_)
  match a with
  | ⟨0, _⟩ => show win0_12.index t (0 : Fin 2) * 1 + 1 * (i 0).val = (i 0).val; rw [e0]; omega
  | ⟨1, _⟩ => show win0_12.index t (1 : Fin 2) * 1024 + 1 * (i 1).val = (i 1).val; rw [e1]; omega

/-- Window 13 always stands at its array's origin. -/
theorem at_13 : ∀ t : Fin cfg0.N, win0_13.index t (0 : Fin 2) = 0 ∧ win0_13.index t (1 : Fin 2) = 0 :=
  (by decide +kernel : ∀ t : Fin grid0.N, _)

/-- Window 13's block is its whole array at every point. -/
theorem blk_13 (t : Fin cfg0.N) (i : S1x128.Idx) :
    (iblk m c 13 t : Vec F S1x128 .f32) i = V m c main_v6 i := by
  obtain ⟨e0, e1⟩ := at_13 t
  unfold iblk
  refine congrArg (V m c main_v6) (funext fun a => Fin.ext ?_)
  match a with
  | ⟨0, _⟩ => show win0_13.index t (0 : Fin 2) * 1 + 1 * (i 0).val = (i 0).val; rw [e0]; omega
  | ⟨1, _⟩ => show win0_13.index t (1 : Fin 2) * 128 + 1 * (i 1).val = (i 1).val; rw [e1]; omega

/-- Window 4's block at point 0: rows 0 and on of its matrix. -/
theorem blk_4_0 (k j : Fin 1024) :
    (iblk m c 4 t0_0 : Vec F S1024x1024 .f32) (ix2 k j)
      = V m c main_arg6 (ix2 ⟨k.val, by omega⟩ j) := by
  have e0 : win0_4.index t0_0 (0 : Fin 2) = 0 := by decide +kernel
  have e1 : win0_4.index t0_0 (1 : Fin 2) = 0 := by decide +kernel
  unfold iblk
  refine congrArg (V m c main_arg6) (funext fun a => Fin.ext ?_)
  match a with
  | ⟨0, _⟩ => show win0_4.index t0_0 (0 : Fin 2) * 1024 + 1 * k.val = k.val; rw [e0]; omega
  | ⟨1, _⟩ => show win0_4.index t0_0 (1 : Fin 2) * 1024 + 1 * j.val = j.val; rw [e1]; omega

/-- Window 4's block at point 1: rows 1024 and on of its matrix. -/
theorem blk_4_1 (k j : Fin 1024) :
    (iblk m c 4 t0_1 : Vec F S1024x1024 .f32) (ix2 k j)
      = V m c main_arg6 (ix2 ⟨1024 + k.val, by omega⟩ j) := by
  have e0 : win0_4.index t0_1 (0 : Fin 2) = 1 := by decide +kernel
  have e1 : win0_4.index t0_1 (1 : Fin 2) = 0 := by decide +kernel
  unfold iblk
  refine congrArg (V m c main_arg6) (funext fun a => Fin.ext ?_)
  match a with
  | ⟨0, _⟩ => show win0_4.index t0_1 (0 : Fin 2) * 1024 + 1 * k.val = 1024 + k.val; rw [e0]; omega
  | ⟨1, _⟩ => show win0_4.index t0_1 (1 : Fin 2) * 1024 + 1 * j.val = j.val; rw [e1]; omega

/-- Window 5's block at point 0: rows 0 and on of its matrix. -/
theorem blk_5_0 (k j : Fin 1024) :
    (iblk m c 5 t0_0 : Vec F S1024x1024 .f32) (ix2 k j)
      = V m c main_arg4 (ix2 ⟨k.val, by omega⟩ j) := by
  have e0 : win0_5.index t0_0 (0 : Fin 2) = 0 := by decide +kernel
  have e1 : win0_5.index t0_0 (1 : Fin 2) = 0 := by decide +kernel
  unfold iblk
  refine congrArg (V m c main_arg4) (funext fun a => Fin.ext ?_)
  match a with
  | ⟨0, _⟩ => show win0_5.index t0_0 (0 : Fin 2) * 1024 + 1 * k.val = k.val; rw [e0]; omega
  | ⟨1, _⟩ => show win0_5.index t0_0 (1 : Fin 2) * 1024 + 1 * j.val = j.val; rw [e1]; omega

/-- Window 5's block at point 1: rows 1024 and on of its matrix. -/
theorem blk_5_1 (k j : Fin 1024) :
    (iblk m c 5 t0_1 : Vec F S1024x1024 .f32) (ix2 k j)
      = V m c main_arg4 (ix2 ⟨1024 + k.val, by omega⟩ j) := by
  have e0 : win0_5.index t0_1 (0 : Fin 2) = 1 := by decide +kernel
  have e1 : win0_5.index t0_1 (1 : Fin 2) = 0 := by decide +kernel
  unfold iblk
  refine congrArg (V m c main_arg4) (funext fun a => Fin.ext ?_)
  match a with
  | ⟨0, _⟩ => show win0_5.index t0_1 (0 : Fin 2) * 1024 + 1 * k.val = 1024 + k.val; rw [e0]; omega
  | ⟨1, _⟩ => show win0_5.index t0_1 (1 : Fin 2) * 1024 + 1 * j.val = j.val; rw [e1]; omega

/-- Window 6's block at point 0: rows 0 and on of its matrix. -/
theorem blk_6_0 (k j : Fin 1024) :
    (iblk m c 6 t0_0 : Vec F S1024x1024 .f32) (ix2 k j)
      = V m c main_arg10 (ix2 ⟨k.val, by omega⟩ j) := by
  have e0 : win0_6.index t0_0 (0 : Fin 2) = 0 := by decide +kernel
  have e1 : win0_6.index t0_0 (1 : Fin 2) = 0 := by decide +kernel
  unfold iblk
  refine congrArg (V m c main_arg10) (funext fun a => Fin.ext ?_)
  match a with
  | ⟨0, _⟩ => show win0_6.index t0_0 (0 : Fin 2) * 1024 + 1 * k.val = k.val; rw [e0]; omega
  | ⟨1, _⟩ => show win0_6.index t0_0 (1 : Fin 2) * 1024 + 1 * j.val = j.val; rw [e1]; omega

/-- Window 6's block at point 1: rows 1024 and on of its matrix. -/
theorem blk_6_1 (k j : Fin 1024) :
    (iblk m c 6 t0_1 : Vec F S1024x1024 .f32) (ix2 k j)
      = V m c main_arg10 (ix2 ⟨1024 + k.val, by omega⟩ j) := by
  have e0 : win0_6.index t0_1 (0 : Fin 2) = 1 := by decide +kernel
  have e1 : win0_6.index t0_1 (1 : Fin 2) = 0 := by decide +kernel
  unfold iblk
  refine congrArg (V m c main_arg10) (funext fun a => Fin.ext ?_)
  match a with
  | ⟨0, _⟩ => show win0_6.index t0_1 (0 : Fin 2) * 1024 + 1 * k.val = 1024 + k.val; rw [e0]; omega
  | ⟨1, _⟩ => show win0_6.index t0_1 (1 : Fin 2) * 1024 + 1 * j.val = j.val; rw [e1]; omega

/-! ## The arrays the host lines wrote -/

/-- The staged current state. -/
theorem v0_at (j : Fin 1024) :
    (V m c main_v0 : Vec F S1x1024 .f32) (ix2 0 j) = (m ((c : Thread nD τ).loc main_arg0) : Vec F S1024 .f32) (ix1 j) := by
  show StableHlo.after (List.flatten [hostOps0, hostOps0_1, hostOps0_2, hostOps0_3, hostOps0_4, hostOps0_5, hostOps0_6])
    (fun b => m (c, b)) (Proc.devRef .tc main_v0) _ = _
  simp only [hostOps0, hostOps0_1, hostOps0_2, hostOps0_3, hostOps0_4, hostOps0_5, hostOps0_6, List.flatten_cons, List.flatten_nil, List.append_nil, List.cons_append, List.nil_append]
  after_results_simp
  pointwise

/-- The neighbour states, padded to 32 rows: the first 26 rows. -/
theorem v1_at (k : Fin 26) (j : Fin 1024) :
    (V m c main_v1 : Vec F S32x1024 .f32) (ix2 ⟨k.val, by omega⟩ j) = (m ((c : Thread nD τ).loc main_arg1) : Vec F S26x1024 .f32) (ix2 k j) := by
  show StableHlo.after (List.flatten [hostOps0, hostOps0_1, hostOps0_2, hostOps0_3, hostOps0_4, hostOps0_5, hostOps0_6])
    (fun b => m (c, b)) (Proc.devRef .tc main_v1) _ = _
  simp only [hostOps0, hostOps0_1, hostOps0_2, hostOps0_3, hostOps0_4, hostOps0_5, hostOps0_6, List.flatten_cons, List.flatten_nil, List.append_nil, List.cons_append, List.nil_append]
  after_results_simp
  have key : ∀ x : Vec F S26x1024 .f32, pad S32x1024 ![0, 0] ![6, 0] ![0, 0] x (sitofp .f32 (constantI S_ 32 0#32)) pads_S26x1024_S32x1024_060_000 h_S_ (ix2 ⟨k.val, by omega⟩ j) = x (ix2 k j) := fun x => by
    pointwise
  exact key _

/-- The neighbour indices, padded to 32 lanes: the first 26 lanes. -/
theorem v3_at (k : Fin 26) :
    (V m c main_v3 : Vec F S1x32 .i32) (ix2 0 ⟨k.val, by omega⟩) = (m ((c : Thread nD τ).loc main_arg3) : Vec F S26 .i32) (ix1 k) := by
  show StableHlo.after (List.flatten [hostOps0, hostOps0_1, hostOps0_2, hostOps0_3, hostOps0_4, hostOps0_5, hostOps0_6])
    (fun b => m (c, b)) (Proc.devRef .tc main_v3) _ = _
  simp only [hostOps0, hostOps0_1, hostOps0_2, hostOps0_3, hostOps0_4, hostOps0_5, hostOps0_6, List.flatten_cons, List.flatten_nil, List.append_nil, List.cons_append, List.nil_append]
  after_results_simp
  have key : ∀ x : Vec F S26 .i32, shapeCast S1x32 (pad S32 ![0] ![6] ![0] x (constantI S_ 32 0#32) pads_S26_S32_060 h_S_) shapeCasts_S32_S1x32 (ix2 0 ⟨k.val, by omega⟩) = x (ix1 k) := fun x => by
    pointwise
  exact key _

/-- The cell index. -/
theorem v4_at :
    (V m c main_v4 : Vec F S1x1 .i32) (ix2 0 0) = (m ((c : Thread nD τ).loc main_arg2) : Vec F S_ .i32) ix0 := by
  show StableHlo.after (List.flatten [hostOps0, hostOps0_1, hostOps0_2, hostOps0_3, hostOps0_4, hostOps0_5, hostOps0_6])
    (fun b => m (c, b)) (Proc.devRef .tc main_v4) _ = _
  simp only [hostOps0, hostOps0_1, hostOps0_2, hostOps0_3, hostOps0_4, hostOps0_5, hostOps0_6, List.flatten_cons, List.flatten_nil, List.append_nil, List.cons_append, List.nil_append]
  after_results_simp
  pointwise

/-- The gate bias, padded to 128 lanes: the first 3 lanes. -/
theorem v6_at (j : Fin 3) :
    (V m c main_v6 : Vec F S1x128 .f32) (ix2 0 ⟨j.val, by omega⟩) = (m ((c : Thread nD τ).loc main_arg13) : Vec F S3 .f32) (ix1 j) := by
  show StableHlo.after (List.flatten [hostOps0, hostOps0_1, hostOps0_2, hostOps0_3, hostOps0_4, hostOps0_5, hostOps0_6])
    (fun b => m (c, b)) (Proc.devRef .tc main_v6) _ = _
  simp only [hostOps0, hostOps0_1, hostOps0_2, hostOps0_3, hostOps0_4, hostOps0_5, hostOps0_6, List.flatten_cons, List.flatten_nil, List.append_nil, List.cons_append, List.nil_append]
  after_results_simp
  have key : ∀ x : Vec F S3 .f32, shapeCast S1x128 (pad S128 ![0] ![125] ![0] x (sitofp .f32 (constantI S_ 32 0#32)) pads_S3_S128_01250 h_S_) shapeCasts_S128_S1x128 (ix2 0 ⟨j.val, by omega⟩) = x (ix1 j) := fun x => by
    pointwise
  exact key _

/-- A layer's bias as one row. -/
theorem v7_at (j : Fin 1024) :
    (V m c main_v7 : Vec F S1x1024 .f32) (ix2 0 j) = (m ((c : Thread nD τ).loc main_arg5) : Vec F S1024 .f32) (ix1 j) := by
  show StableHlo.after (List.flatten [hostOps0, hostOps0_1, hostOps0_2, hostOps0_3, hostOps0_4, hostOps0_5, hostOps0_6])
    (fun b => m (c, b)) (Proc.devRef .tc main_v7) _ = _
  simp only [hostOps0, hostOps0_1, hostOps0_2, hostOps0_3, hostOps0_4, hostOps0_5, hostOps0_6, List.flatten_cons, List.flatten_nil, List.append_nil, List.cons_append, List.nil_append]
  after_results_simp
  pointwise

/-- A layer's bias as one row. -/
theorem v8_at (j : Fin 1024) :
    (V m c main_v8 : Vec F S1x1024 .f32) (ix2 0 j) = (m ((c : Thread nD τ).loc main_arg7) : Vec F S1024 .f32) (ix1 j) := by
  show StableHlo.after (List.flatten [hostOps0, hostOps0_1, hostOps0_2, hostOps0_3, hostOps0_4, hostOps0_5, hostOps0_6])
    (fun b => m (c, b)) (Proc.devRef .tc main_v8) _ = _
  simp only [hostOps0, hostOps0_1, hostOps0_2, hostOps0_3, hostOps0_4, hostOps0_5, hostOps0_6, List.flatten_cons, List.flatten_nil, List.append_nil, List.cons_append, List.nil_append]
  after_results_simp
  pointwise

/-- A layer's bias as one row. -/
theorem v9_at (j : Fin 1024) :
    (V m c main_v9 : Vec F S1x1024 .f32) (ix2 0 j) = (m ((c : Thread nD τ).loc main_arg9) : Vec F S1024 .f32) (ix1 j) := by
  show StableHlo.after (List.flatten [hostOps0, hostOps0_1, hostOps0_2, hostOps0_3, hostOps0_4, hostOps0_5, hostOps0_6])
    (fun b => m (c, b)) (Proc.devRef .tc main_v9) _ = _
  simp only [hostOps0, hostOps0_1, hostOps0_2, hostOps0_3, hostOps0_4, hostOps0_5, hostOps0_6, List.flatten_cons, List.flatten_nil, List.append_nil, List.cons_append, List.nil_append]
  after_results_simp
  pointwise

/-- A layer's bias as one row. -/
theorem v10_at (j : Fin 1024) :
    (V m c main_v10 : Vec F S1x1024 .f32) (ix2 0 j) = (m ((c : Thread nD τ).loc main_arg11) : Vec F S1024 .f32) (ix1 j) := by
  show StableHlo.after (List.flatten [hostOps0, hostOps0_1, hostOps0_2, hostOps0_3, hostOps0_4, hostOps0_5, hostOps0_6])
    (fun b => m (c, b)) (Proc.devRef .tc main_v10) _ = _
  simp only [hostOps0, hostOps0_1, hostOps0_2, hostOps0_3, hostOps0_4, hostOps0_5, hostOps0_6, List.flatten_cons, List.flatten_nil, List.append_nil, List.cons_append, List.nil_append]
  after_results_simp
  pointwise

end Cert.KernelIdeal.In

end
-- ==== Proof.KRun.lean ====
/- The scratch after the first and the second grid point, and the two result blocks after the third, as the formulas of
   `Spec` on the launched arguments. -/
module

public import proofs.«01_k».proof.Proof.KMeans
public import proofs.«01_k».proof.Proof.KIn

@[expose] public section

set_option maxRecDepth 16384

noncomputable section

open Idealize.ShloMosaic Idealize.ShloMosaic.TcCoe Idealize.SL.Sem

namespace Cert.KernelIdeal.KRun

open Cert.KernelIdeal Cert.KernelIdeal.Gen Cert.KernelIdeal.Hand Cert.KernelIdeal.Pieces Cert.KernelIdeal.Pay Cert.KernelIdeal.In Cert.Lattice

variable (m : (ℓ : Loc nD τ sig) → Buf (Elt Ideal) ℓ) (c : Dev nD)

/-! ## The launched arguments, by their types -/

/-- Argument 0 of the launch. -/
abbrev a0 : Vec Ideal S1024 .f32 := m ((c : Thread nD τ).loc main_arg0)
/-- Argument 1 of the launch. -/
abbrev a1 : Vec Ideal S26x1024 .f32 := m ((c : Thread nD τ).loc main_arg1)
/-- Argument 2 of the launch. -/
abbrev a2 : Vec Ideal S_ .i32 := m ((c : Thread nD τ).loc main_arg2)
/-- Argument 3 of the launch. -/
abbrev a3 : Vec Ideal S26 .i32 := m ((c : Thread nD τ).loc main_arg3)
/-- Argument 4 of the launch. -/
abbrev a4 : Vec Ideal S2048x1024 .f32 := m ((c : Thread nD τ).loc main_arg4)
/-- Argument 5 of the launch. -/
abbrev a5 : Vec Ideal S1024 .f32 := m ((c : Thread nD τ).loc main_arg5)
/-- Argument 6 of the launch. -/
abbrev a6 : Vec Ideal S2048x1024 .f32 := m ((c : Thread nD τ).loc main_arg6)
/-- Argument 7 of the launch. -/
abbrev a7 : Vec Ideal S1024 .f32 := m ((c : Thread nD τ).loc main_arg7)
/-- Argument 8 of the launch. -/
abbrev a8 : Vec Ideal S1024x1024 .f32 := m ((c : Thread nD τ).loc main_arg8)
/-- Argument 9 of the launch. -/
abbrev a9 : Vec Ideal S1024 .f32 := m ((c : Thread nD τ).loc main_arg9)
/-- Argument 10 of the launch. -/
abbrev a10 : Vec Ideal S2048x1024 .f32 := m ((c : Thread nD τ).loc main_arg10)
/-- Argument 11 of the launch. -/
abbrev a11 : Vec Ideal S1024 .f32 := m ((c : Thread nD τ).loc main_arg11)
/-- Argument 12 of the launch. -/
abbrev a12 : Vec Ideal S2048x3 .f32 := m ((c : Thread nD τ).loc main_arg12)
/-- Argument 13 of the launch. -/
abbrev a13 : Vec Ideal S3 .f32 := m ((c : Thread nD τ).loc main_arg13)

/-- The three classes' masks over the 26 neighbours. -/
def nearM (k : Fin 26) : EReal := near (dist2 (a3 m c (ix1 k)) (a2 m c ix0))
def midM (k : Fin 26) : EReal := mid (dist2 (a3 m c (ix1 k)) (a2 m c ix0))
def farM (k : Fin 26) : EReal := far (dist2 (a3 m c (ix1 k)) (a2 m c ix0))
/-- The neighbours' states, by row and coordinate. -/
def nst (k : Fin 26) (d : Fin 1024) : EReal := a1 m c (ix2 k d)
/-- The cell's own state. -/
def cst (k : Fin 1024) : EReal := a0 m c (ix1 k)

theorem cell_in (t : Fin cfg0.N) : (iblk m c 3 t : Vec Ideal S1x1 .i32) (ix2 0 0) = a2 m c ix0 :=
  (blk_3 m c t _).trans (v4_at m c)
theorem nb_in (t : Fin cfg0.N) (k : Fin 26) : (iblk m c 2 t : Vec Ideal S1x32 .i32) (ix2 0 ⟨k.val, by omega⟩) = a3 m c (ix1 k) :=
  (blk_2 m c t _).trans (v3_at m c k)
theorem ns_in (t : Fin cfg0.N) (k : Fin 26) (d : Fin 1024) :
    (iblk m c 1 t : Vec Ideal S32x1024 .f32) (ix2 ⟨k.val, by omega⟩ d) = nst m c k d :=
  (blk_1 m c t _).trans (v1_at m c k d)
theorem cs_in (t : Fin cfg0.N) (k : Fin 1024) : (iblk m c 0 t : Vec Ideal S1x1024 .f32) (ix2 0 k) = cst m c k :=
  (blk_0 m c t _).trans (v0_at m c k)

/-! ## After the first point -/

/-- The carried scratch after the first point. -/
def X0 : Vec Ideal S8x1024 .f32 := (outsAt0 m c t0_0.val t0_0.isLt).2.2
/-- … and after the second. -/
def X1 : Vec Ideal S8x1024 .f32 := (outsAt0 m c t0_1.val t0_1.isLt).2.2

/-- Row 5: the mean of the near neighbours. -/
theorem X0_row5 (j : Fin 1024) : X0 m c (ix2 5 j) = mean (nearM m c) (nst m c) j := by
  unfold X0
  rw [outsAt0_A m c t0_0 rfl rfl (by decide) (by decide)]
  dsimp only
  rw [A_row5]
  exact near_mean _ _ _ _ _ _ (cell_in m c _) (nb_in m c _) (ns_in m c _) j

/-- Row 6: the mean of the mid neighbours. -/
theorem X0_row6 (j : Fin 1024) : X0 m c (ix2 6 j) = mean (midM m c) (nst m c) j := by
  unfold X0
  rw [outsAt0_A m c t0_0 rfl rfl (by decide) (by decide)]
  dsimp only
  rw [A_row6]
  exact mid_mean _ _ _ _ _ _ (cell_in m c _) (nb_in m c _) (ns_in m c _) j

/-- Row 7: the mean of the far neighbours. -/
theorem X0_row7 (j : Fin 1024) : X0 m c (ix2 7 j) = mean (farM m c) (nst m c) j := by
  unfold X0
  rw [outsAt0_A m c t0_0 rfl rfl (by decide) (by decide)]
  dsimp only
  rw [A_row7]
  exact far_mean _ _ _ _ _ _ (cell_in m c _) (nb_in m c _) (ns_in m c _) j

/-- Row 4, its first three lanes: the gate's linear layer. -/
theorem X0_row4 (j : Fin 3) :
    X0 m c (ix2 4 ⟨j.val, by omega⟩) = lin (cst m c) (avg (nst m c)) (fun k o => a12 m c (ix2 k o)) j := by
  unfold X0
  rw [outsAt0_A m c t0_0 rfl rfl (by decide) (by decide)]
  dsimp only
  rw [A_row4a (h := j.isLt)]
  refine (gate_at _ (nst m c) (ns_in m c _) _ _ _ _ _ _ (cst m c) (cs_in m c _) j).trans ?_
  congr 1
  funext k o
  exact (blk_8 m c _ _).trans (congrFun (V_main_arg12 m c) _)

/-- Row 0: the current state through the first half of its matrix. -/
theorem X0_row0 (j : Fin 1024) :
    X0 m c (ix2 0 j) = ∑ k : Fin 1024, cst m c k * a4 m c (ix2 ⟨k.val, by omega⟩ j) := by
  unfold X0
  rw [outsAt0_A m c t0_0 rfl rfl (by decide) (by decide)]
  dsimp only
  rw [A_row0]
  rw [pay7_at]
  refine (congrArg (· + _) (pay15_at j 0)).trans ((zero_add _).trans (Finset.sum_congr rfl fun k _ => ?_))
  rw [cs_in, blk_5_0, V_main_arg4]

/-- Row 1: the current state through the first half of its matrix. -/
theorem X0_row1 (j : Fin 1024) :
    X0 m c (ix2 1 j) = ∑ k : Fin 1024, cst m c k * a6 m c (ix2 ⟨k.val, by omega⟩ j) := by
  unfold X0
  rw [outsAt0_A m c t0_0 rfl rfl (by decide) (by decide)]
  dsimp only
  rw [A_row1]
  rw [pay8_at]
  refine (congrArg (· + _) (pay15_at j 1)).trans ((zero_add _).trans (Finset.sum_congr rfl fun k _ => ?_))
  rw [cs_in, blk_4_0, V_main_arg6]

/-- Row 2: the current state through the first half of its matrix. -/
theorem X0_row2 (j : Fin 1024) :
    X0 m c (ix2 2 j) = ∑ k : Fin 1024, cst m c k * a10 m c (ix2 ⟨k.val, by omega⟩ j) := by
  unfold X0
  rw [outsAt0_A m c t0_0 rfl rfl (by decide) (by decide)]
  dsimp only
  rw [A_row2]
  rw [pay9_at]
  refine (congrArg (· + _) (pay15_at j 2)).trans ((zero_add _).trans (Finset.sum_congr rfl fun k _ => ?_))
  rw [cs_in, blk_6_0, V_main_arg10]

/-! ## After the second point -/

theorem prev (n n' : ℕ) (hn : n < cfg0.N) (hn' : n' < cfg0.N) (h : n = n') : outsAt0 m c n hn = outsAt0 m c n' hn' := by
  subst h; rfl

/-- The second halves of the streamed matrices, the second functional matrix and the hidden bias, at the arguments. -/
theorem half_4 (k j : Fin 1024) : (iblk m c 4 t0_1 : Vec Ideal S1024x1024 .f32) (ix2 k j) = a6 m c (ix2 ⟨1024 + k.val, by omega⟩ j) :=
  (blk_4_1 m c k j).trans (congrFun (V_main_arg6 m c) _)
theorem half_5 (k j : Fin 1024) : (iblk m c 5 t0_1 : Vec Ideal S1024x1024 .f32) (ix2 k j) = a4 m c (ix2 ⟨1024 + k.val, by omega⟩ j) :=
  (blk_5_1 m c k j).trans (congrFun (V_main_arg4 m c) _)
theorem half_6 (k j : Fin 1024) : (iblk m c 6 t0_1 : Vec Ideal S1024x1024 .f32) (ix2 k j) = a10 m c (ix2 ⟨1024 + k.val, by omega⟩ j) :=
  (blk_6_1 m c k j).trans (congrFun (V_main_arg10 m c) _)
theorem full_7 (t : Fin cfg0.N) (k j : Fin 1024) : (iblk m c 7 t : Vec Ideal S1024x1024 .f32) (ix2 k j) = a8 m c (ix2 k j) :=
  (blk_7 m c t _).trans (congrFun (V_main_arg8 m c) _)
theorem bias_10 (t : Fin cfg0.N) (j : Fin 1024) : (iblk m c 10 t : Vec Ideal S1x1024 .f32) (ix2 0 j) = a7 m c (ix1 j) :=
  (blk_10 m c t _).trans (v8_at m c j)

theorem row_at (X : Vec Ideal S8x1024 .f32) (r : Fin 8) (j : Fin 1024) : row X r (ix2 0 j) = X (ix2 r j) := rfl

/-- The scratch the second point finds is what the first left, -/
theorem found1 (h : t0_1.val - 1 < cfg0.N) : (outsAt0 m c (t0_1.val - 1) h).2.2 = X0 m c := by
  rw [prev m c (t0_1.val - 1) t0_0.val h t0_0.isLt rfl]
  rfl
/-- and the third finds what the second left. -/
theorem found2 (h : t0_2.val - 1 < cfg0.N) : (outsAt0 m c (t0_2.val - 1) h).2.2 = X1 m c := by
  rw [prev m c (t0_2.val - 1) t0_1.val h t0_1.isLt rfl]
  rfl

/-- Row 0: the whole first layer on the current state and the near mean. -/
theorem X1_row0 (j : Fin 1024) :
    X1 m c (ix2 0 j) = lin (cst m c) (mean (nearM m c) (nst m c)) (fun k o => a4 m c (ix2 k o)) j := by
  unfold X1
  rw [outsAt0_B m c t0_1 (by decide) (by decide) rfl (by decide)]
  dsimp only
  rw [B_row0, found1, pay10_at]
  simp only [row_at, X0_row0, X0_row5, half_5, lin]

/-- Row 1: the whole first layer on the current state and the mid mean. -/
theorem X1_row1 (j : Fin 1024) :
    X1 m c (ix2 1 j) = lin (cst m c) (mean (midM m c) (nst m c)) (fun k o => a6 m c (ix2 k o)) j := by
  unfold X1
  rw [outsAt0_B m c t0_1 (by decide) (by decide) rfl (by decide)]
  dsimp only
  rw [B_row1, found1, pay11_at]
  simp only [row_at, X0_row1, X0_row6, half_4, lin]

/-- Row 2: the whole first layer on the current state and the far mean. -/
theorem X1_row2 (j : Fin 1024) :
    X1 m c (ix2 2 j) = lin (cst m c) (mean (farM m c) (nst m c)) (fun k o => a10 m c (ix2 k o)) j := by
  unfold X1
  rw [outsAt0_B m c t0_1 (by decide) (by decide) rfl (by decide)]
  dsimp only
  rw [B_row2, found1, pay12_at]
  simp only [row_at, X0_row2, X0_row7, half_6, lin]

/-- Row 4 is untouched. -/
theorem X1_row4 (j : Fin 3) :
    X1 m c (ix2 4 ⟨j.val, by omega⟩) = lin (cst m c) (avg (nst m c)) (fun k o => a12 m c (ix2 k o)) j := by
  unfold X1
  rw [outsAt0_B m c t0_1 (by decide) (by decide) rfl (by decide)]
  dsimp only
  rw [B_row4, found1]
  exact X0_row4 m c j

/-! ## After the third point -/

/-- The gate's scores. -/
def score (o : Fin 3) : EReal := lin (cst m c) (avg (nst m c)) (fun k o => a12 m c (ix2 k o)) o + a13 m c (ix1 o)

theorem score_in (t : Fin cfg0.N) (k : Fin 3) :
    k0_pay52 (F := Ideal) (gateRow (X1 m c)) (iblk m c 13 t : Vec Ideal S1x128 .f32) (ix2 0 ⟨k.val, by omega⟩) = score m c k := by
  rw [pay52_at]
  exact congrArg₂ (· + ·) (X1_row4 m c k) ((blk_13 m c t _).trans (v6_at m c k))

/-- The local expert, -/
def loc (j : Fin 1024) : EReal :=
  if 0 < ∑ k, nearM m c k then
    Ideal.tanh (lin (cst m c) (mean (nearM m c) (nst m c)) (fun k o => a4 m c (ix2 k o)) j + a5 m c (ix1 j))
  else 0
/-- the functional expert, -/
def fnc (j : Fin 1024) : EReal :=
  if 0 < ∑ k, midM m c k then
    Ideal.tanh ((∑ i : Fin 1024, Ideal.tanh (lin (cst m c) (mean (midM m c) (nst m c)) (fun k o => a6 m c (ix2 k o)) i + a7 m c (ix1 i))
      * a8 m c (ix2 i j)) + a9 m c (ix1 j)) + cst m c j
  else 0
/-- the distant expert. -/
def dst (j : Fin 1024) : EReal :=
  if 0 < ∑ k, farM m c k then
    Ideal.tanh (lin (cst m c) (mean (farM m c) (nst m c)) (fun k o => a10 m c (ix2 k o)) j + a11 m c (ix1 j))
  else 0

theorem near_in (t : Fin cfg0.N) : nearC (F := Ideal) (iblk m c 2 t) (iblk m c 3 t) (ix2 0 0) = ∑ k, nearM m c k :=
  nearC_eq (iblk m c 1 t) _ _ _ _ (nst m c) (cell_in m c t) (nb_in m c t) (ns_in m c t)
theorem mid_in (t : Fin cfg0.N) : midC (F := Ideal) (iblk m c 2 t) (iblk m c 3 t) (ix2 0 0) = ∑ k, midM m c k :=
  midC_eq (iblk m c 1 t) _ _ _ _ (nst m c) (cell_in m c t) (nb_in m c t) (ns_in m c t)
theorem far_in (t : Fin cfg0.N) : farC (F := Ideal) (iblk m c 2 t) (iblk m c 3 t) (ix2 0 0) = ∑ k, farM m c k :=
  farC_eq (iblk m c 1 t) _ _ _ _ (nst m c) (cell_in m c t) (nb_in m c t) (ns_in m c t)

theorem loc_in (t : Fin cfg0.N) (j : Fin 1024) :
    k0_pay49 (F := Ideal) (nearC (iblk m c 2 t) (iblk m c 3 t)) (row (X1 m c) 0) (iblk m c 9 t) (ix2 0 j) = loc m c j := by
  rw [pay49_at, near_in, blk_9, v7_at]
  rw [row_at, X1_row0]
  rfl
theorem dst_in (t : Fin cfg0.N) (j : Fin 1024) :
    k0_pay51 (F := Ideal) (farC (iblk m c 2 t) (iblk m c 3 t)) (row (X1 m c) 2) (iblk m c 12 t) (ix2 0 j) = dst m c j := by
  rw [pay51_at, far_in, blk_12, v10_at]
  rw [row_at, X1_row2]
  rfl
theorem fnc_in (t : Fin cfg0.N) (j : Fin 1024) :
    k0_pay50 (F := Ideal) (midC (iblk m c 2 t) (iblk m c 3 t)) (k0_pay47 (iblk m c 0 t))
      (k0_pay48 (row (X1 m c) 1) (iblk m c 10 t) (iblk m c 7 t)) (iblk m c 11 t) (ix2 0 j) = fnc m c j := by
  rw [pay50_at, mid_in, blk_11, v9_at, pay47_at, cs_in, pay48_at]
  simp only [row_at, X1_row1, bias_10, full_7, fnc]

/-- The first result block: the three experts by their weights. -/
theorem out14 (j : Fin 1024) :
    (outsAt0 m c t0_2.val t0_2.isLt).1 (ix2 0 j)
      = soft (score m c) 0 * loc m c j + soft (score m c) 1 * fnc m c j + soft (score m c) 2 * dst m c j := by
  rw [outsAt0_C m c t0_2 (by decide) (by decide) (by decide) rfl]
  dsimp only
  rw [C_out14, found2]
  refine (pay14_at _ _ _ _ (score m c) (score_in m c _) j).trans ?_
  exact congrArg₂ (· + ·) (congrArg₂ (· + ·) (congrArg (_ * ·) (loc_in m c _ j)) (congrArg (_ * ·) (fnc_in m c _ j)))
    (congrArg (_ * ·) (dst_in m c _ j))

/-- The second result block, its first three lanes: the weights. -/
theorem out15 (o : Fin 3) :
    (outsAt0 m c t0_2.val t0_2.isLt).2.1 (ix2 0 ⟨o.val, by omega⟩) = soft (score m c) o := by
  rw [outsAt0_C m c t0_2 (by decide) (by decide) (by decide) rfl]
  dsimp only
  rw [C_out15, found2]
  exact pay13_at _ (score m c) (score_in m c _) o

end Cert.KernelIdeal.KRun

end
-- ==== Proof.KValue.lean ====
/- The kernel's two results after the run: each result block is written back once, at the third point, and covers its
   array; the host lines after the region reshape the first array and cut the first three lanes of the second. -/
module

public import proofs.«01_k».proof.Proof.KRun
public import Idealize.ShloMosaic.Lib.Pipeline.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Cert.KernelIdeal.Hand Cert.KernelIdeal.KRun Cert.Lattice

variable (m : (ℓ : Loc nD τ sig) → Buf (Elt Ideal) ℓ) (ρ : Dev nD → PrngReg) (c : Dev nD)

theorem last_of (t : Fin cfg0.N) (h : t.val % 3 = 2) : t = t0_2 := by
  have hN : t.val < 3 := lt_of_lt_of_eq t.isLt (show cfg0.N = 3 from N_0)
  exact Fin.ext (show t.val = 2 by omega)

/-! ## Result window 14 -/

theorem at_14 : win0_14.index t0_2 (0 : Fin 2) = 0 ∧ win0_14.index t0_2 (1 : Fin 2) = 0 := by decide +kernel

/-- The index of the array an index of the block stands for is that index. -/
theorem emb_14 (y : S1x1024.Idx) : (((cfg0.win 14).blk t0_2).view.emb y : S1x1024.Idx) = y := by
  obtain ⟨e0, e1⟩ := at_14
  refine funext fun a => Fin.ext ?_
  match a with
  | ⟨0, _⟩ => show win0_14.index t0_2 (0 : Fin 2) * 1 + 1 * (y 0).val = (y 0).val; rw [e0]; omega
  | ⟨1, _⟩ => show win0_14.index t0_2 (1 : Fin 2) * 1024 + 1 * (y 1).val = (y 1).val; rw [e1]; omega

/-- What the third point leaves in the block. -/
def G14 : Vec Ideal S1x1024 .f32 := (outsAt0 m c t0_2.val t0_2.isLt).1

/-- The one block written back is that. -/
theorem flushed14 (t : Fin cfg0.N) (hf : (cfg0.win 14).flush t = true) :
    (dats m 0 c).flushed 14 t = ((cfg0.win 14).blk t).view.read (Elt Ideal) (G14 m c) := by
  obtain rfl := last_of t ((flush0_14 t).mp hf)
  show (cfg0.win 14).cut (grid0.coords t0_2) ((dats m 0 c).after 14 t0_2) = _
  rw [after0_14]
  funext y
  exact congrArg (G14 m c) (emb_14 y).symm

/-- Every index of the array is in it. -/
theorem cover14 (i : S1x1024.Idx) : ∃ t : Fin cfg0.N, (cfg0.win 14).flush t = true ∧ i ∈ ((cfg0.win 14).blk t).view.set := by
  refine ⟨t0_2, (flush0_14 t0_2).mpr rfl, ?_⟩
  show i ∈ ((View.whole main_v11_0).slice (win0_14.rect t0_2)).set
  rw [View.set_slice_whole, Rect.mem_set_unit]
  obtain ⟨e0, e1⟩ := at_14
  have h0 : (i 0).val < 1 := (i 0).isLt
  have h1 : (i 1).val < 1024 := (i 1).isLt
  intro a
  match a with
  | ⟨0, _⟩ => show win0_14.index t0_2 (0 : Fin 2) * 1 ≤ (i 0).val ∧ (i 0).val < win0_14.index t0_2 (0 : Fin 2) * 1 + 1; omega
  | ⟨1, _⟩ => show win0_14.index t0_2 (1 : Fin 2) * 1024 ≤ (i 1).val ∧ (i 1).val < win0_14.index t0_2 (1 : Fin 2) * 1024 + 1024; omega

/-- The array after the run. -/
theorem final14 : (dats m 0 c).arrAt 14 cfg0.N = G14 m c :=
  (dats m 0 c).arrAt_eq_of_cover 14 _ (fun t hf => flushed14 m c t hf) (cover14)

/-! ## Result window 15 -/

theorem at_15 : win0_15.index t0_2 (0 : Fin 2) = 0 ∧ win0_15.index t0_2 (1 : Fin 2) = 0 := by decide +kernel

/-- The index of the array an index of the block stands for is that index. -/
theorem emb_15 (y : S1x128.Idx) : (((cfg0.win 15).blk t0_2).view.emb y : S1x128.Idx) = y := by
  obtain ⟨e0, e1⟩ := at_15
  refine funext fun a => Fin.ext ?_
  match a with
  | ⟨0, _⟩ => show win0_15.index t0_2 (0 : Fin 2) * 1 + 1 * (y 0).val = (y 0).val; rw [e0]; omega
  | ⟨1, _⟩ => show win0_15.index t0_2 (1 : Fin 2) * 128 + 1 * (y 1).val = (y 1).val; rw [e1]; omega

/-- What the third point leaves in the block. -/
def G15 : Vec Ideal S1x128 .f32 := (outsAt0 m c t0_2.val t0_2.isLt).2.1

/-- The one block written back is that. -/
theorem flushed15 (t : Fin cfg0.N) (hf : (cfg0.win 15).flush t = true) :
    (dats m 0 c).flushed 15 t = ((cfg0.win 15).blk t).view.read (Elt Ideal) (G15 m c) := by
  obtain rfl := last_of t ((flush0_15 t).mp hf)
  show (cfg0.win 15).cut (grid0.coords t0_2) ((dats m 0 c).after 15 t0_2) = _
  rw [after0_15]
  funext y
  exact congrArg (G15 m c) (emb_15 y).symm

/-- Every index of the array is in it. -/
theorem cover15 (i : S1x128.Idx) : ∃ t : Fin cfg0.N, (cfg0.win 15).flush t = true ∧ i ∈ ((cfg0.win 15).blk t).view.set := by
  refine ⟨t0_2, (flush0_15 t0_2).mpr rfl, ?_⟩
  show i ∈ ((View.whole main_v11_1).slice (win0_15.rect t0_2)).set
  rw [View.set_slice_whole, Rect.mem_set_unit]
  obtain ⟨e0, e1⟩ := at_15
  have h0 : (i 0).val < 1 := (i 0).isLt
  have h1 : (i 1).val < 128 := (i 1).isLt
  intro a
  match a with
  | ⟨0, _⟩ => show win0_15.index t0_2 (0 : Fin 2) * 1 ≤ (i 0).val ∧ (i 0).val < win0_15.index t0_2 (0 : Fin 2) * 1 + 1; omega
  | ⟨1, _⟩ => show win0_15.index t0_2 (1 : Fin 2) * 128 ≤ (i 1).val ∧ (i 1).val < win0_15.index t0_2 (1 : Fin 2) * 128 + 128; omega

/-- The array after the run. -/
theorem final15 : (dats m 0 c).arrAt 15 cfg0.N = G15 m c :=
  (dats m 0 c).arrAt_eq_of_cover 15 _ (fun t hf => flushed15 m c t hf) (cover15)

/-! ## The host lines after the region -/

/-- What the region leaves in the two result arrays. -/
theorem left14 (A : Valuation τ sig (Elt Ideal)) :
    Pipeline.withArrays (cfgs 0).spec c A (fun w => (dats m 0 c).arrAt w (cfgs 0).N) (Proc.devRef .tc main_v11_0) = G14 m c :=
  (Pipeline.withArrays_arr (cfgs 0).spec launch0.win.arr_inj c A (fun w => (dats m 0 c).arrAt w (cfgs 0).N) 14).trans (final14 m c)
theorem left15 (A : Valuation τ sig (Elt Ideal)) :
    Pipeline.withArrays (cfgs 0).spec c A (fun w => (dats m 0 c).arrAt w (cfgs 0).N) (Proc.devRef .tc main_v11_1) = G15 m c :=
  (Pipeline.withArrays_arr (cfgs 0).spec launch0.win.arr_inj c A (fun w => (dats m 0 c).arrAt w (cfgs 0).N) 15).trans (final15 m c)

/-- The first result: the reshaped first array. -/
theorem tail12 : Pipeline.afterTail₀ cfgs (dats m) 0 (V0 m) [hostOps1] c main_v12
    = (shapeCast S1024 (G14 m c) shapeCasts_S1x1024_S1024 : Vec Ideal S1024 .f32) := by
  unfold Pipeline.afterTail₀
  simp only [hostOps1, List.flatten_cons, List.flatten_nil, List.append_nil, List.cons_append, List.nil_append]
  after_results_simp
  rw [left14]
  rfl

/-- The second result: the first three lanes of the second array. -/
theorem tail14 : Pipeline.afterTail₀ cfgs (dats m) 0 (V0 m) [hostOps1] c main_v14
    = (shapeCast S3 (extractStridedSlice S1x3 ![0, 0] (G15 m c) slices_S1x128_S1x3_0_0) shapeCasts_S1x3_S3 : Vec Ideal S3 .f32) := by
  unfold Pipeline.afterTail₀
  simp only [hostOps1, List.flatten_cons, List.flatten_nil, List.append_nil, List.cons_append, List.nil_append]
  after_results_simp
  rw [left15]
  rfl

/-- The first result, entry by entry. -/
theorem state_at (j : Fin 1024) : (shapeCast S1024 (G14 m c) shapeCasts_S1x1024_S1024 : Vec Ideal S1024 .f32) (ix1 j)
    = soft (score m c) 0 * loc m c j + soft (score m c) 1 * fnc m c j + soft (score m c) 2 * dst m c j := by
  refine Eq.trans ?_ (out14 m c j)
  show _ = G14 m c (ix2 0 j)
  pointwise

/-- The second result, entry by entry. -/
theorem weight_at (o : Fin 3) :
    (shapeCast S3 (extractStridedSlice S1x3 ![0, 0] (G15 m c) slices_S1x128_S1x3_0_0) shapeCasts_S1x3_S3 : Vec Ideal S3 .f32) (ix1 o)
      = soft (score m c) o := by
  refine Eq.trans ?_ (out15 m c o)
  show _ = G15 m c (ix2 0 ⟨o.val, by omega⟩)
  pointwise

/-- The run with both results named. -/
theorem run : θ_run defs (onTc (τ := τ) (main (F := Ideal))) ⟨m, fun _ => 0, ρ⟩ fun r => ∀ c : Dev nD,
      r.2.mem ((c.tc : Thread nD τ).loc main_v12) = (shapeCast S1024 (G14 m c) shapeCasts_S1x1024_S1024 : Vec Ideal S1024 .f32)
      ∧ r.2.mem ((c.tc : Thread nD τ).loc main_v14)
        = (shapeCast S3 (extractStridedSlice S1x3 ![0, 0] (G15 m c) slices_S1x128_S1x3_0_0) shapeCasts_S1x3_S3 : Vec Ideal S3 .f32) :=
  (θ_run defs _ _).mono (fun r h c =>
      ⟨((h c).2 main_v12 (Pipeline.mem_restRefs_of main_v12 (by decide) (by decide))).trans (tail12 m c),
        ((h c).2 main_v14 (Pipeline.mem_restRefs_of main_v14 (by decide) (by decide))).trans (tail14 m c)⟩)
    (run_main m ρ)

end Cert.KernelIdeal.KVal

end
-- ==== Proof.RefValue.lean ====
/- The reference program's two results at an index over the extended reals, in the terms of `Spec`. -/
module

public import proofs.«01_k».proof.Proof.Spec
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Read Cert.Lattice

variable (x0 : (⟨S1024, .f32⟩ : BufTy).Contents (Elt Ideal)) (x1 : (⟨S26x1024, .f32⟩ : BufTy).Contents (Elt Ideal)) (x2 : (⟨S_, .i32⟩ : BufTy).Contents (Elt Ideal)) (x3 : (⟨S26, .i32⟩ : BufTy).Contents (Elt Ideal)) (x4 : (⟨S2048x1024, .f32⟩ : BufTy).Contents (Elt Ideal)) (x5 : (⟨S1024, .f32⟩ : BufTy).Contents (Elt Ideal)) (x6 : (⟨S2048x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S2048x1024, .f32⟩ : BufTy).Contents (Elt Ideal)) (x11 : (⟨S1024, .f32⟩ : BufTy).Contents (Elt Ideal)) (x12 : (⟨S2048x3, .f32⟩ : BufTy).Contents (Elt Ideal)) (x13 : (⟨S3, .f32⟩ : BufTy).Contents (Elt Ideal))

/-! ### Lattice coordinates -/

theorem v0_at : BitVec.toInt (val_main_v0 (F := Ideal) x2 ix0) = cx (x2 ix0) := by
  pointwise [val_main_v0, val_main_c, val_main_call0_c, val_main_call0_c_0, val_main_call0_v0, val_main_call0_v1, val_main_call0_v2, val_main_call0_v3, val_main_call0_v4, val_main_call0_v5, val_main_call0_v6, val_main_call0_v7, val_main_call0_v8]
  exact floor_word _ 729#32 (by decide)
theorem v1_at : BitVec.toInt (val_main_v1 (F := Ideal) x2 ix0) = (x2 ix0).toInt / 27 := by
  pointwise [val_main_v1, val_main_c_0, val_main_call1_c, val_main_call1_c_0, val_main_call1_v0, val_main_call1_v1, val_main_call1_v2, val_main_call1_v3, val_main_call1_v4, val_main_call1_v5, val_main_call1_v6, val_main_call1_v7, val_main_call1_v8]
  exact floor_word _ 27#32 (by decide)
theorem v2_at : BitVec.toInt (val_main_v2 (F := Ideal) x2 ix0) = cy (x2 ix0) := by
  refine Eq.trans ?_ (congrArg (· % 27) (v1_at x2))
  pointwise [val_main_v2, val_main_c_1, val_main_call2_c, val_main_call2_c_0, val_main_call2_c_1, val_main_call2_c_2, val_main_call2_c_3, val_main_call2_v0, val_main_call2_v1, val_main_call2_v2, val_main_call2_v3, val_main_call2_v4, val_main_call2_v5, val_main_call2_v6, val_main_call2_v7, val_main_call2_v8, val_main_call2_v9]
  exact mod_word _ 27#32 (by decide)
theorem v3_at : BitVec.toInt (val_main_v3 (F := Ideal) x2 ix0) = cz (x2 ix0) := by
  pointwise [val_main_v3, val_main_c_2, val_main_call3_c, val_main_call3_c_0, val_main_call3_c_1, val_main_call3_c_2, val_main_call3_c_3, val_main_call3_v0, val_main_call3_v1, val_main_call3_v2, val_main_call3_v3, val_main_call3_v4, val_main_call3_v5, val_main_call3_v6, val_main_call3_v7, val_main_call3_v8, val_main_call3_v9]
  exact mod_word _ 27#32 (by decide)
variable (k : Fin 26)
theorem v9_at : BitVec.toInt (val_main_v9 (F := Ideal) x3 (ix1 k)) = cx (x3 (ix1 k)) := by
  pointwise [val_main_v9, val_main_c_3, val_main_call4_c, val_main_call4_c_0, val_main_call4_v0, val_main_call4_v1, val_main_call4_v10, val_main_call4_v11, val_main_call4_v12, val_main_call4_v13, val_main_call4_v2, val_main_call4_v3, val_main_call4_v4, val_main_call4_v5, val_main_call4_v6, val_main_call4_v7, val_main_call4_v8, val_main_call4_v9]
  exact floor_word _ 729#32 (by decide)
theorem v10_at : BitVec.toInt (val_main_v10 (F := Ideal) x3 (ix1 k)) = (x3 (ix1 k)).toInt / 27 := by
  pointwise [val_main_v10, val_main_c_4, val_main_call5_c, val_main_call5_c_0, val_main_call5_v0, val_main_call5_v1, val_main_call5_v10, val_main_call5_v11, val_main_call5_v12, val_main_call5_v13, val_main_call5_v2, val_main_call5_v3, val_main_call5_v4, val_main_call5_v5, val_main_call5_v6, val_main_call5_v7, val_main_call5_v8, val_main_call5_v9]
  exact floor_word _ 27#32 (by decide)
theorem v11_at : BitVec.toInt (val_main_v11 (F := Ideal) x3 (ix1 k)) = cy (x3 (ix1 k)) := by
  refine Eq.trans ?_ (congrArg (· % 27) (v10_at x3 k))
  pointwise [val_main_v11, val_main_c_5, val_main_call6_c, val_main_call6_c_0, val_main_call6_c_1, val_main_call6_c_2, val_main_call6_c_3, val_main_call6_v0, val_main_call6_v1, val_main_call6_v10, val_main_call6_v11, val_main_call6_v12, val_main_call6_v13, val_main_call6_v14, val_main_call6_v2, val_main_call6_v3, val_main_call6_v4, val_main_call6_v5, val_main_call6_v6, val_main_call6_v7, val_main_call6_v8, val_main_call6_v9]
  exact mod_word _ 27#32 (by decide)
theorem v12_at : BitVec.toInt (val_main_v12 (F := Ideal) x3 (ix1 k)) = cz (x3 (ix1 k)) := by
  pointwise [val_main_v12, val_main_c_6, val_main_call7_c, val_main_call7_c_0, val_main_call7_c_1, val_main_call7_c_2, val_main_call7_c_3, val_main_call7_v0, val_main_call7_v1, val_main_call7_v10, val_main_call7_v11, val_main_call7_v12, val_main_call7_v13, val_main_call7_v14, val_main_call7_v2, val_main_call7_v3, val_main_call7_v4, val_main_call7_v5, val_main_call7_v6, val_main_call7_v7, val_main_call7_v8, val_main_call7_v9]
  exact mod_word _ 27#32 (by decide)

/-- The squared distance under the root. -/
theorem sq_at : val_main_call8_v1 (F := Ideal) x2 x3 (ix1 k) = zz (dist2 (x3 (ix1 k)) (x2 ix0)) := by
  pointwise [val_main_call8_v1, val_main_call8_v0, val_main_call8_cst, val_main_v20, val_main_v19, val_main_v18, val_main_v17, val_main_v16, val_main_v15, val_main_v14, val_main_v13, val_main_v8, val_main_v7, val_main_v6, val_main_v5, val_main_v4]
  rw [Fin.sum_univ_three]
  simp only [sitofp_zz]
  simp [v0_at, v2_at, v3_at, v9_at, v11_at, v12_at, zz_sub, zz_mul, zz_add, -EReal.coe_mul]
  rfl

theorem near_at : val_main_v24 (F := Ideal) x2 x3 (ix1 k) = near (dist2 (x3 (ix1 k)) (x2 ix0)) := by
  pointwise [val_main_v24, val_main_v23, val_main_v22, val_main_v21, val_main_cst]
  rw [uitofp_bool, sq_at, ofBits_18]
  exact ind_congr (by rw [decide_eq_true_iff, sqrt_le_18 _ (dist2_nonneg _ _)])
theorem mid_at : val_main_v30 (F := Ideal) x2 x3 (ix1 k) = mid (dist2 (x3 (ix1 k)) (x2 ix0)) := by
  pointwise [val_main_v30, val_main_v29, val_main_v28, val_main_v27, val_main_v26, val_main_v25, val_main_v21, val_main_cst_7, val_main_cst_8]
  simp only [IntOp.andi, BitVec.ofBool_and_ofBool]
  rw [uitofp_bool, sq_at, ofBits_18, ofBits_45]
  exact ind_congr (by rw [Bool.and_eq_true, decide_eq_true_iff, decide_eq_true_iff, ← not_le, sqrt_le_18 _ (dist2_nonneg _ _), sqrt_le_45 _ (dist2_nonneg _ _), not_le])
theorem far_at : val_main_v33 (F := Ideal) x2 x3 (ix1 k) = far (dist2 (x3 (ix1 k)) (x2 ix0)) := by
  pointwise [val_main_v33, val_main_v32, val_main_v31, val_main_v21, val_main_cst_9]
  rw [uitofp_bool, sq_at, ofBits_45]
  exact ind_congr (by rw [decide_eq_true_iff, ← not_le, sqrt_le_45 _ (dist2_nonneg _ _), not_le])

/-! ### Masked means -/

variable (j : Fin 1024)
theorem near_mean : val_main_v41 (F := Ideal) x1 x2 x3 (ix1 j)
    = mean (fun k => near (dist2 (x3 (ix1 k)) (x2 ix0))) (fun k d => x1 (ix2 k d)) j := by
  pointwise [val_main_v41, val_main_v40, val_main_v39, val_main_v38, val_main_v37, val_main_v36, val_main_v35, val_main_v34, val_main_cst_10, val_main_cst_11, val_main_cst_12]
  simp only [near_at]
  rfl
theorem near_cnt : val_main_v34 (F := Ideal) x2 x3 ix0 = ∑ k : Fin 26, near (dist2 (x3 (ix1 k)) (x2 ix0)) := by
  pointwise [val_main_v34, val_main_cst_10]
  simp only [near_at]
theorem mid_mean : val_main_v49 (F := Ideal) x1 x2 x3 (ix1 j)
    = mean (fun k => mid (dist2 (x3 (ix1 k)) (x2 ix0))) (fun k d => x1 (ix2 k d)) j := by
  pointwise [val_main_v49, val_main_v48, val_main_v47, val_main_v46, val_main_v45, val_main_v44, val_main_v43, val_main_v42, val_main_cst_13, val_main_cst_14, val_main_cst_15]
  simp only [mid_at]
  rfl
theorem mid_cnt : val_main_v42 (F := Ideal) x2 x3 ix0 = ∑ k : Fin 26, mid (dist2 (x3 (ix1 k)) (x2 ix0)) := by
  pointwise [val_main_v42, val_main_cst_13]
  simp only [mid_at]
theorem far_mean : val_main_v57 (F := Ideal) x1 x2 x3 (ix1 j)
    = mean (fun k => far (dist2 (x3 (ix1 k)) (x2 ix0))) (fun k d => x1 (ix2 k d)) j := by
  pointwise [val_main_v57, val_main_v56, val_main_v55, val_main_v54, val_main_v53, val_main_v52, val_main_v51, val_main_v50, val_main_cst_16, val_main_cst_17, val_main_cst_18]
  simp only [far_at]
  rfl
theorem far_cnt : val_main_v50 (F := Ideal) x2 x3 ix0 = ∑ k : Fin 26, far (dist2 (x3 (ix1 k)) (x2 ix0)) := by
  pointwise [val_main_v50, val_main_cst_16]
  simp only [far_at]
theorem avg_at : val_main_v85 (F := Ideal) x1 (ix1 j) = avg (fun k d => x1 (ix2 k d)) j := by
  pointwise [val_main_v85, val_main_v84, val_main_v83, val_main_cst_25, val_main_cst_26]
  rfl

/-! ### Layers -/

/-- The local expert, -/
theorem local_at : val_main_v64 (F := Ideal) x0 x1 x2 x3 x4 x5 (ix1 j)
    = if 0 < ∑ k : Fin 26, near (dist2 (x3 (ix1 k)) (x2 ix0)) then
        Ideal.tanh (lin (fun k => x0 (ix1 k)) (mean (fun k => near (dist2 (x3 (ix1 k)) (x2 ix0))) (fun k d => x1 (ix2 k d)))
          (fun k o => x4 (ix2 k o)) j + x5 (ix1 j))
      else 0 := by
  pointwise [val_main_v64, val_main_v63, val_main_v62, val_main_v61, val_main_v60, val_main_v59, val_main_v58, val_main_cst_19, val_main_cst_20]
  simp only [near_cnt, near_mean]
  rfl

/-- the functional one's first layer, -/
theorem hidden_at : val_main_v68 (F := Ideal) x0 x1 x2 x3 x6 x7 (ix1 j)
    = Ideal.tanh (lin (fun k => x0 (ix1 k)) (mean (fun k => mid (dist2 (x3 (ix1 k)) (x2 ix0))) (fun k d => x1 (ix2 k d)))
          (fun k o => x6 (ix2 k o)) j + x7 (ix1 j)) := by
  pointwise [val_main_v68, val_main_v67, val_main_v66, val_main_v65]
  simp only [mid_mean]
  rfl

/-- and its result, -/
theorem func_at : val_main_v75 (F := Ideal) x0 x1 x2 x3 x6 x7 x8 x9 (ix1 j)
    = if 0 < ∑ k : Fin 26, mid (dist2 (x3 (ix1 k)) (x2 ix0)) then
        Ideal.tanh ((∑ i : Fin 1024, Ideal.tanh (lin (fun k => x0 (ix1 k))
            (mean (fun k => mid (dist2 (x3 (ix1 k)) (x2 ix0))) (fun k d => x1 (ix2 k d))) (fun k o => x6 (ix2 k o)) i + x7 (ix1 i))
          * x8 (ix2 i j)) + x9 (ix1 j)) + x0 (ix1 j)
      else 0 := by
  pointwise [val_main_v75, val_main_v74, val_main_v73, val_main_v72, val_main_v71, val_main_v70, val_main_v69, val_main_cst_21, val_main_cst_22]
  simp only [mid_cnt, hidden_at]

/-- and the distant one. -/
theorem dist_at : val_main_v82 (F := Ideal) x0 x1 x2 x3 x10 x11 (ix1 j)
    = if 0 < ∑ k : Fin 26, far (dist2 (x3 (ix1 k)) (x2 ix0)) then
        Ideal.tanh (lin (fun k => x0 (ix1 k)) (mean (fun k => far (dist2 (x3 (ix1 k)) (x2 ix0))) (fun k d => x1 (ix2 k d)))
          (fun k o => x10 (ix2 k o)) j + x11 (ix1 j))
      else 0 := by
  pointwise [val_main_v82, val_main_v81, val_main_v80, val_main_v79, val_main_v78, val_main_v77, val_main_v76, val_main_cst_23, val_main_cst_24]
  simp only [far_cnt, far_mean]
  rfl

/-- The gate's scores, -/
theorem score_at (o : Fin 3) : val_main_v88 (F := Ideal) x0 x1 x12 x13 (ix1 o)
    = lin (fun k => x0 (ix1 k)) (avg (fun k d => x1 (ix2 k d))) (fun k o => x12 (ix2 k o)) o + x13 (ix1 o) := by
  pointwise [val_main_v88, val_main_v87, val_main_v86]
  simp only [avg_at]
  rfl

/-- their softmax, the second result, -/
theorem weight_at (o : Fin 3) : val_main_v98 (F := Ideal) x0 x1 x12 x13 (ix1 o)
    = soft (fun o => lin (fun k => x0 (ix1 k)) (avg (fun k d => x1 (ix2 k d))) (fun k o => x12 (ix2 k o)) o + x13 (ix1 o)) o := by
  pointwise [val_main_v98, val_main_v97, val_main_v96, val_main_v95, val_main_v94, val_main_v93, val_main_v92, val_main_v91, val_main_v90, val_main_v89, val_main_cst_27, val_main_cst_28, val_main_cst_29]
  simp only [score_at, ofBits_bot, max_eq_right bot_le]
  rfl

/-- and the first result: the experts by their weights. -/
theorem state_at : val_main_v106 (F := Ideal) x0 x1 x2 x3 x4 x5 x6 x7 x8 x9 x10 x11 x12 x13 (ix1 j)
    = val_main_v98 (F := Ideal) x0 x1 x12 x13 (ix1 0) * val_main_v64 (F := Ideal) x0 x1 x2 x3 x4 x5 (ix1 j)
      + val_main_v98 (F := Ideal) x0 x1 x12 x13 (ix1 1) * val_main_v75 (F := Ideal) x0 x1 x2 x3 x6 x7 x8 x9 (ix1 j)
      + val_main_v98 (F := Ideal) x0 x1 x12 x13 (ix1 2) * val_main_v82 (F := Ideal) x0 x1 x2 x3 x10 x11 (ix1 j) := by
  pointwise [val_main_v106, val_main_v105, val_main_v104, val_main_v103, val_main_v102, val_main_v101, val_main_v100, val_main_v99, val_main_cst_30]
  rw [Fin.sum_univ_three]
  rfl

end Cert.ReferenceIdeal.Ref

end
-- ==== Proof.Final.lean ====
/- The two programs side by side: each of the reference's results is the kernel's, entry by entry. -/
module

public import proofs.«01_k».proof.Proof.KValue
public import proofs.«01_k».proof.Proof.RefValue
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.Meet

open Cert.Lattice Cert.KernelIdeal.KRun Cert.KernelIdeal.KVal

variable (m : (ℓ : Loc Cert.KernelIdeal.nD Cert.KernelIdeal.τ Cert.KernelIdeal.sig) → Buf (Elt Ideal) ℓ) (c : Dev Cert.KernelIdeal.nD)

/-- The kernel's first result. -/
abbrev state : Vec Ideal Cert.KernelIdeal.S1024 .f32 :=
  shapeCast Cert.KernelIdeal.S1024 (G14 m c) Cert.KernelIdeal.Gen.shapeCasts_S1x1024_S1024
/-- The kernel's second result. -/
abbrev weights : Vec Ideal Cert.KernelIdeal.S3 .f32 :=
  shapeCast Cert.KernelIdeal.S3 (extractStridedSlice Cert.KernelIdeal.S1x3 ![0, 0] (G15 m c)
    Cert.KernelIdeal.Gen.slices_S1x128_S1x3_0_0) Cert.KernelIdeal.Gen.shapeCasts_S1x3_S3

/-- The reference's weights on the kernel's arguments. -/
theorem ref_weights :
    Cert.ReferenceIdeal.Read.val_main_v98 (F := Ideal) (a0 m c) (a1 m c) (a12 m c) (a13 m c) = weights m c := by
  funext i
  obtain ⟨o, rfl⟩ : ∃ o : Fin 3, i = ix1 o := ⟨i 0, funext fun a => by fin_cases a; rfl⟩
  exact (Cert.ReferenceIdeal.Ref.weight_at _ _ _ _ o).trans (Cert.KernelIdeal.KVal.weight_at m c o).symm

/-- The reference's state on the kernel's arguments. -/
theorem ref_state :
    Cert.ReferenceIdeal.Read.val_main_v106 (F := Ideal) (a0 m c) (a1 m c) (a2 m c) (a3 m c) (a4 m c) (a5 m c) (a6 m c) (a7 m c)
      (a8 m c) (a9 m c) (a10 m c) (a11 m c) (a12 m c) (a13 m c) = state m c := by
  funext i
  obtain ⟨j, rfl⟩ : ∃ j : Fin 1024, i = ix1 j := ⟨i 0, funext fun a => by fin_cases a; rfl⟩
  refine Eq.trans ?_ (Cert.KernelIdeal.KVal.state_at m c j).symm
  rw [Cert.ReferenceIdeal.Ref.state_at, Cert.ReferenceIdeal.Ref.weight_at, Cert.ReferenceIdeal.Ref.weight_at,
    Cert.ReferenceIdeal.Ref.weight_at, Cert.ReferenceIdeal.Ref.local_at, Cert.ReferenceIdeal.Ref.func_at,
    Cert.ReferenceIdeal.Ref.dist_at]
  rfl

/-- The reference's state, of arguments equal to the kernel's. -/
theorem ref_state_of
    {x0 : Vec Ideal Cert.KernelIdeal.S1024 .f32}    {x1 : Vec Ideal Cert.KernelIdeal.S26x1024 .f32}    {x2 : Vec Ideal Cert.KernelIdeal.S_ .i32}    {x3 : Vec Ideal Cert.KernelIdeal.S26 .i32}    {x4 : Vec Ideal Cert.KernelIdeal.S2048x1024 .f32}    {x5 : Vec Ideal Cert.KernelIdeal.S1024 .f32}    {x6 : Vec Ideal Cert.KernelIdeal.S2048x1024 .f32}    {x7 : Vec Ideal Cert.KernelIdeal.S1024 .f32}    {x8 : Vec Ideal Cert.KernelIdeal.S1024x1024 .f32}    {x9 : Vec Ideal Cert.KernelIdeal.S1024 .f32}    {x10 : Vec Ideal Cert.KernelIdeal.S2048x1024 .f32}    {x11 : Vec Ideal Cert.KernelIdeal.S1024 .f32}    {x12 : Vec Ideal Cert.KernelIdeal.S2048x3 .f32}    {x13 : Vec Ideal Cert.KernelIdeal.S3 .f32}
    (h0 : x0 = a0 m c)    (h1 : x1 = a1 m c)    (h2 : x2 = a2 m c)    (h3 : x3 = a3 m c)    (h4 : x4 = a4 m c)    (h5 : x5 = a5 m c)    (h6 : x6 = a6 m c)    (h7 : x7 = a7 m c)    (h8 : x8 = a8 m c)    (h9 : x9 = a9 m c)    (h10 : x10 = a10 m c)    (h11 : x11 = a11 m c)    (h12 : x12 = a12 m c)    (h13 : x13 = a13 m c) :
    Cert.ReferenceIdeal.Read.val_main_v106 (F := Ideal) x0 x1 x2 x3 x4 x5 x6 x7 x8 x9 x10 x11 x12 x13 = state m c := by
  subst h0 h1 h2 h3 h4 h5 h6 h7 h8 h9 h10 h11 h12 h13
  exact ref_state m c

/-- The reference's weights, of arguments equal to the kernel's. -/
theorem ref_weights_of
    {x0 : Vec Ideal Cert.KernelIdeal.S1024 .f32}    {x1 : Vec Ideal Cert.KernelIdeal.S26x1024 .f32}    {x12 : Vec Ideal Cert.KernelIdeal.S2048x3 .f32}    {x13 : Vec Ideal Cert.KernelIdeal.S3 .f32}
    (h0 : x0 = a0 m c)    (h1 : x1 = a1 m c)    (h12 : x12 = a12 m c)    (h13 : x13 = a13 m c) :
    Cert.ReferenceIdeal.Read.val_main_v98 (F := Ideal) x0 x1 x12 x13 = weights m c := by
  subst h0 h1 h12 h13
  exact ref_weights m c

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdealFrame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The kernel as it stands leaves its arguments alone and every counter at zero. -/
theorem frame_p : Cert.quiescent_Kernel := fun m g _ => Cert.Kernel.Hand.frame m g

/-- The kernel over the extended reals leaves its arguments alone and every counter at zero. -/
theorem frame_pi : Cert.quiescent_KernelIdeal := fun m g _ => Cert.KernelIdeal.Hand.frame m g

/-- The reference over the extended reals leaves its arguments alone; it has no counters. -/
theorem frame_ri : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

/-- The three words that are read as exact fractions: 1/729, 1/27 and 1/26. -/
theorem preserves : Cert.preserves_Kernel_KernelIdeal :=
  ⟨IdealRules.named_const.statement Cert.KernelIdeal.κ "r729" .f32 0x3AB3CC07#32 ((729⁻¹ : ℝ) : EReal) rfl,
    IdealRules.named_const.statement Cert.KernelIdeal.κ "r27" .f32 0x3D17B426#32 ((27⁻¹ : ℝ) : EReal) rfl,
    IdealRules.named_const.statement Cert.KernelIdeal.κ "r26" .f32 0x3D1D89D9#32 ((26⁻¹ : ℝ) : EReal) rfl⟩

/-- From memories that agree on the arguments both programs end with the same two results. -/
theorem algebraic : Cert.algebraic_KernelIdeal_ReferenceIdeal := by
  intro m g m' g' _ hagree
  refine ⟨fun c => Cert.Meet.state m c, fun c => Cert.Meet.weights m c,
    (θ_run Cert.KernelIdeal.defs _ _).mono (fun r h c => ⟨(h.1 c).1, (h.1 c).2, h.2 c⟩)
      (θ_run_and (Cert.KernelIdeal.KVal.run m g) (Cert.KernelIdeal.Hand.unchanged m g)),
    (θ_run Cert.ReferenceIdeal.defs _ _).mono (fun r h c => ?_) (Cert.ReferenceIdeal.Value.run m' g')⟩
  obtain ⟨hs, hw, hk⟩ := h c
  obtain ⟨h0, h1, h2, h3, h4, h5, h6, h7, h8, h9, h10, h11, h12, h13⟩ := hagree c
  refine ⟨hs.trans ((Cert.ReferenceIdeal.Read.val_main_v106_eq (F := Ideal) _).trans ?_),
    hw.trans ((Cert.ReferenceIdeal.Read.val_main_v98_eq (F := Ideal) _).trans ?_), hk⟩
  · exact Cert.Meet.ref_state_of m c h0 h1 h2 h3 h4 h5 h6 h7 h8 h9 h10 h11 h12 h13
  · exact Cert.Meet.ref_weights_of m c h0 h1 h12 h13

/-- All five claims. -/
theorem claim : Cert.Claim := ⟨Cert.Kernel.Gen.facts, Cert.KernelIdeal.Gen.facts, Cert.ReferenceIdeal.Gen.facts,
  frame_p, frame_pi, frame_ri, preserves, algebraic⟩

end Cert.Proof

end
